-- ==== Defs.lean ====
def Pre_Kernel (m : (ℓ : Loc Cert.Kernel.nD Cert.Kernel.τ Cert.Kernel.sig) → Buf (Elt Bits) ℓ) : Prop :=
  True

def Pre_Kernel_no_ties [hPre_no_ties : Cert.Pre_no_ties.Facts] (m : (ℓ : Loc Cert.Kernel.nD Cert.Kernel.τ Cert.Kernel.sig) → Buf (Elt Bits) ℓ) : Prop :=
  ∀ c : Dev Cert.Kernel.nD,
    (Cert.Pre_no_ties.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_no_ties [hKernel : Cert.Kernel.Facts] [hPre_no_ties : Cert.Pre_no_ties.Facts] : Prop :=
  ∀ (m : (ℓ : Loc Cert.Kernel.nD Cert.Kernel.τ Cert.Kernel.sig) → Buf (Elt Bits) ℓ) (g : Dev Cert.Kernel.nD → PrngReg), Pre_Kernel_no_ties m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_Kernel_pre_no_ties (hKernel := hKernel) (hPre_no_ties := hPre_no_ties)
    ∧ quiescent_KernelIdeal (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal (hKernelIdeal := hKernelIdeal) (hReferenceIdeal := hReferenceIdeal) (hPre_no_ties := hPre_no_ties)
-- ==== Pre_no_ties.lean ====
abbrev S1x128x64x64 : Shape := ⟨4, ![1, 128, 64, 64]⟩
abbrev S64x64 : Shape := ⟨2, ![64, 64]⟩
abbrev S4096 : Shape := ⟨1, ![4096]⟩
abbrev S_ : Shape := ⟨0, ![]⟩
abbrev S1x64x64x64 : Shape := ⟨4, ![1, 64, 64, 64]⟩
abbrev S64x64x64 : Shape := ⟨3, ![64, 64, 64]⟩
abbrev S64x4096 : Shape := ⟨2, ![64, 4096]⟩
abbrev S4096x64 : Shape := ⟨2, ![4096, 64]⟩
abbrev S4096x1 : Shape := ⟨2, ![4096, 1]⟩
abbrev S4096x4096 : Shape := ⟨2, ![4096, 4096]⟩
abbrev S1x4096 : Shape := ⟨2, ![1, 4096]⟩

class Facts : Prop where
  shapeCasts_S64x64_S4096 : S64x64.ShapeCasts S4096
  bcast_S_S4096 : S_.BroadcastsInDim S4096 (![] : Fin 0 → Fin S4096.rank)
  slices_S1x128x64x64_S1x64x64x64_0_64_0_0 : S1x128x64x64.Slices ![0, 64, 0, 0] S1x64x64x64
  shapeCasts_S1x64x64x64_S64x64x64 : S1x64x64x64.ShapeCasts S64x64x64
  shapeCasts_S64x64x64_S64x4096 : S64x64x64.ShapeCasts S64x4096
  transposes_S64x4096_S4096x64_1_0 : S64x4096.Transposes [1, 0] S4096x64
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  natLt_1_32 : 1 < 32
  dot_S4096x64_S64x4096_S4096x4096_1_0_0_1_n_n_wf : DotDims.WF S4096x64 S64x4096 S4096x4096 [1] [0] [0] [1] [] []

variable [Facts]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def fn_where {F : FTy → Type} [FloatOps F] (arg0 : IVec S1x4096 1) (arg1 : FVec F S_ .f32) (arg2 : FVec F S4096x4096 .f32) : FVec F S4096x4096 .f32 :=
  let v0 : IVec S4096x4096 1 := broadcastInDim S4096x4096 ![0, 1] bcast_S1x4096_S4096x4096_0_1 arg0
  let v1 : FVec F S4096x4096 .f32 := broadcastInDim S4096x4096 ![] bcast_S_S4096x4096 arg1
  let v2 : FVec F S4096x4096 .f32 := select v0 v1 arg2
  v2

def fn_part1 {F : FTy → Type} [FloatOps F] (main_v18 : FVec F S4096x4096 .f32) (main_cst_2 : FVec F S_ .f32) : IVec S4096 1 :=
  let main_v19 : FVec F S4096 .f32 := (fun x v => Host.reduce FloatOps.maximumf x v reducesTo_S4096x4096_S4096_d1 h_S_) main_v18 main_cst_2
  let main_v20 : FVec F S4096x1 .f32 := broadcastInDim S4096x1 ![0] bcast_S4096_S4096x1_0 main_v19
  let main_v21 : FVec F S4096x4096 .f32 := broadcastInDim S4096x4096 ![0, 1] bcast_S4096x1_S4096x4096_0_1 main_v20
  let main_v22 : IVec S4096x4096 1 := cmpf .oeq main_v18 main_v21
  let main_v23 : IVec S4096x4096 32 := (extui 32 · natLt_1_32) main_v22
  let main_c_3 : IVec S_ 32 := constantI S_ 32 0#32
  let main_v24 : IVec S4096 32 := (fun x v => Host.reduce IntOp.addi x v reducesTo_S4096x4096_S4096_d1 h_S_) main_v23 main_c_3
  let main_c_4 : IVec S_ 32 := constantI S_ 32 1#32
  let main_v25 : IVec S4096 32 := broadcastInDim S4096 ![] bcast_S_S4096 main_c_4
  let main_v26 : IVec S4096 1 := cmpi .eq main_v24 main_v25
  main_v26

def fn {F : FTy → Type} [FloatOps F] (main_arg0 : FVec F S1x128x64x64 .f32) (main_arg1 : IVec S64x64 32) : IVec S4096 1 :=
  let main_v0 : IVec S4096 32 := shapeCast S4096 main_arg1 shapeCasts_S64x64_S4096
  let main_c : IVec S_ 32 := constantI S_ 32 1#32
  let main_v1 : IVec S4096 32 := broadcastInDim S4096 ![] bcast_S_S4096 main_c
  let main_v2 : IVec S4096 1 := cmpi .sge main_v0 main_v1
  let main_v3 : FVec F S1x64x64x64 .f32 := (extractStridedSlice S1x64x64x64 ![0, 64, 0, 0] · slices_S1x128x64x64_S1x64x64x64_0_64_0_0) main_arg0
  let main_v4 : FVec F S64x64x64 .f32 := shapeCast S64x64x64 main_v3 shapeCasts_S1x64x64x64_S64x64x64
  let main_v5 : FVec F S64x4096 .f32 := shapeCast S64x4096 main_v4 shapeCasts_S64x64x64_S64x4096
  let main_v6 : FVec F S4096x64 .f32 := (transpose S4096x64 [1, 0] · transposes_S64x4096_S4096x64_1_0) main_v5
  let main_v7 : FVec F S4096x64 .f32 := mulf main_v6 main_v6
  let main_cst : FVec F S_ .f32 := constant S_ .f32 0x00000000#32
  let main_v8 : FVec F S4096 .f32 := (fun x v => Host.reduceAdd x v reducesTo_S4096x64_S4096_d1 h_S_) main_v7 main_cst
  let main_v9 : FVec F S4096x1 .f32 := broadcastInDim S4096x1 ![0] bcast_S4096_S4096x1_0 main_v8
  let main_v10 : FVec F S4096x1 .f32 := Host.sqrt main_v9
  let main_cst_0 : FVec F S_ .f32 := constant S_ .f32 0x322BCC77#32
  let main_v11 : FVec F S4096x1 .f32 := broadcastInDim S4096x1 ![] bcast_S_S4096x1 main_cst_0
  let main_v12 : FVec F S4096x1 .f32 := addf main_v10 main_v11
  let main_v13 : FVec F S4096x64 .f32 := broadcastInDim S4096x64 ![0, 1] bcast_S4096x1_S4096x64_0_1 main_v12
  let main_v14 : FVec F S4096x64 .f32 := Host.divf main_v6 main_v13
  let main_v15 : FVec F S64x4096 .f32 := (transpose S64x4096 [1, 0] · transposes_S4096x64_S64x4096_1_0) main_v14
  let main_v16 : FVec F S4096x4096 .f32 := (fun l r => Host.dotGeneral dot_S4096x64_S64x4096_S4096x4096_1_0_0_1_n_n none l r) main_v6 main_v15
  let main_v17 : IVec S1x4096 1 := broadcastInDim S1x4096 ![1] bcast_S4096_S1x4096_1 main_v2
  let main_cst_1 : FVec F S_ .f32 := constant S_ .f32 0xCE6E6B28#32
  let main_v18 : FVec F S4096x4096 .f32 := fn_where (F := F) main_v17 main_cst_1 main_v16
  let main_cst_2 : FVec F S_ .f32 := constant S_ .f32 0xFF800000#32
  fn_part1 (F := F) main_v18 main_cst_2
-- ==== Kernel.lean ====
abbrev S1x128x64x64 : Shape := ⟨4, ![1, 128, 64, 64]⟩
abbrev S64x64 : Shape := ⟨2, ![64, 64]⟩
abbrev S128x4096 : Shape := ⟨2, ![128, 4096]⟩
abbrev S64x4096 : Shape := ⟨2, ![64, 4096]⟩
abbrev S4096 : Shape := ⟨1, ![4096]⟩
abbrev S_ : Shape := ⟨0, ![]⟩
abbrev S4096x1 : Shape := ⟨2, ![4096, 1]⟩
abbrev S2x1x2048 : Shape := ⟨3, ![2, 1, 2048]⟩
abbrev S1x1x2048 : Shape := ⟨3, ![1, 1, 2048]⟩
abbrev S1x4096 : Shape := ⟨2, ![1, 4096]⟩
abbrev S64x2048 : Shape := ⟨2, ![64, 2048]⟩
abbrev S4096x2048 : Shape := ⟨2, ![4096, 2048]⟩
abbrev S2048 : Shape := ⟨1, ![2048]⟩
abbrev S1x2048 : Shape := ⟨2, ![1, 2048]⟩
abbrev S1x64x64x64 : Shape := ⟨4, ![1, 64, 64, 64]⟩
abbrev S1x1x64x64 : Shape := ⟨4, ![1, 1, 64, 64]⟩
abbrev S16 : Shape := ⟨1, ![16]⟩
abbrev S1x16 : Shape := ⟨2, ![1, 16]⟩
abbrev S1x192x64x64 : Shape := ⟨4, ![1, 192, 64, 64]⟩

abbrev nBuf : Table → Nat
  | .hbm => 22
  | .local .tc .vmem => 5
  | .local .scVector .vmem => 4
  | _ => 0

abbrev bufTy : (tb : Table) → Fin (nBuf tb) → BufTy
  | .hbm, ⟨0, _⟩ => ⟨S1x128x64x64, .f32⟩
  | .hbm, ⟨1, _⟩ => ⟨S64x64, .i32⟩
  | .hbm, ⟨2, _⟩ => ⟨S128x4096, .f32⟩
  | .hbm, ⟨3, _⟩ => ⟨S64x4096, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S4096x1, .i1⟩
  | .hbm, ⟨9, _⟩ => ⟨S4096x1, .i32⟩
  | .hbm, ⟨10, _⟩ => ⟨S4096, .f32⟩
  | .hbm, ⟨11, _⟩ => ⟨S2x1x2048, .i32⟩
  | .hbm, ⟨12, _⟩ => ⟨S4096, .i32⟩
  | .hbm, ⟨13, _⟩ => ⟨S1x64x64x64, .f32⟩
  | .hbm, ⟨14, _⟩ => ⟨S_, .i32⟩
  | .hbm, ⟨15, _⟩ => ⟨S_, .f32⟩
  | .hbm, ⟨16, _⟩ => ⟨S1x192x64x64, .f32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x192x64x64, .f32⟩
  | .local .tc .vmem, ⟨0, _⟩ => ⟨S64x4096, .f32⟩
  | .local .tc .vmem, ⟨1, _⟩ => ⟨S4096x1, .i32⟩
  | .local .tc .vmem, ⟨2, _⟩ => ⟨S1x1x2048, .i32⟩
  | .local .tc .vmem, ⟨3, _⟩ => ⟨S1x1x2048, .i32⟩
  | .local .tc .vmem, ⟨4, _⟩ => ⟨S64x4096, .f32⟩
  | .local .scVector .vmem, ⟨0, _⟩ => ⟨S4096, .i32⟩
  | .local .scVector .vmem, ⟨1, _⟩ => ⟨S4096, .f32⟩
  | .local .scVector .vmem, ⟨2, _⟩ => ⟨S64x64, .f32⟩
  | .local .scVector .vmem, ⟨3, _⟩ => ⟨S64x64, .f32⟩
  | _, _ => ⟨S1x128x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_call0_v0 : Ref sig .tc := ⟨.hbm, 15, rfl⟩
abbrev main_v11 : Ref sig .tc := ⟨.hbm, 16, rfl⟩
abbrev main_c_1 : Ref sig .tc := ⟨.hbm, 17, rfl⟩
abbrev main_c_2 : Ref sig .tc := ⟨.hbm, 18, rfl⟩
abbrev main_c_3 : Ref sig .tc := ⟨.hbm, 19, rfl⟩
abbrev main_c_4 : Ref sig .tc := ⟨.hbm, 20, rfl⟩
abbrev main_v12 : Ref sig .tc := ⟨.hbm, 21, rfl⟩
abbrev main_arg0_scv : Ref sig .scVector := ⟨.hbm, 0, rfl⟩
abbrev main_v9_scv : Ref sig .scVector := ⟨.hbm, 12, rfl⟩
abbrev main_v7_scv : Ref sig .scVector := ⟨.hbm, 10, rfl⟩
abbrev main_v10_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem2_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let c0_2 : Index := 0#32
  let arg0 : BitVec 32 := BitVec.ofNat 32 (i 0).val
  let c2048_i32 : BitVec 32 := 2048#32
  let v4 : BitVec 32 := Scalar.muli arg0 c2048_i32
  let v5 : Index := Scalar.indexCast v4
  ![0, v5.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) (c0_i32 : BitVec 32) : Fin 4 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c0_i32_10_r2 : BitVec 32 := 0#32
  let c0_i32_11_r2 : BitVec 32 := 0#32
  ![0, v2.toNat, 0, 0]
@[reducible] def k1_t1_loop : Scf.Loop 32 :=
  let c0_i32_1 : BitVec 32 := 0#32
  let c256_i32 : BitVec 32 := 256#32
  let v3 : BitVec 32 := Scalar.addi c0_i32_1 c256_i32
  let c1_i32 : BitVec 32 := 1#32
  ⟨c0_i32_1, v3, c1_i32⟩
def k1_off2 (k1_t1 : Fin k1_t1_loop.trips) : Fin 1 → Nat :=
  let c0_i32_11 : BitVec 32 := 0#32
  let c0_i32_1 : BitVec 32 := 0#32
  let c1_i32 : BitVec 32 := 1#32
  let arg10 : BitVec 32 := Scf.iv c0_i32_1 c1_i32 k1_t1
  let c1_i32_10 : BitVec 32 := 1#32
  let v6 : BitVec 32 := Scalar.muli arg10 c1_i32_10
  let v7 : BitVec 32 := Scalar.addi c0_i32_11 v6
  let c16_i32 : BitVec 32 := 16#32
  let v8 : BitVec 32 := Scalar.muli v7 c16_i32
  let v9 : Index := Scalar.indexCast v8
  ![v9.toNat]

def k1_chk1 (v12 : IVec S16 32) (v14 : IVec S16 32) : Prop :=
  (∀ a x, ((![v12, v14] : Fin 2 → IVec S16 32) a x).toNat < S64x64.size a)
theorem k1_idx1_inb : ∀ (v12 : IVec S16 32) (v14 : IVec S16 32) (k1_hw1 : k1_chk1 v12 v14), ∀ a x, ((![v12, v14] : Fin 2 → IVec S16 32) a x).toNat < S64x64.size a := fun v12 v14 k1_hw1 => k1_hw1
def k1_off3 (k1_t1 : Fin k1_t1_loop.trips) : Fin 1 → Nat :=
  let c0_i32_11 : BitVec 32 := 0#32
  let c0_i32_1 : BitVec 32 := 0#32
  let c1_i32 : BitVec 32 := 1#32
  let arg10 : BitVec 32 := Scf.iv c0_i32_1 c1_i32 k1_t1
  let c1_i32_10 : BitVec 32 := 1#32
  let v6 : BitVec 32 := Scalar.muli arg10 c1_i32_10
  let v7 : BitVec 32 := Scalar.addi c0_i32_11 v6
  let c16_i32_12 : BitVec 32 := 16#32
  let v16 : BitVec 32 := Scalar.muli v7 c16_i32_12
  let v17 : Index := Scalar.indexCast v16
  ![v17.toNat]
def k1_off4 (k1_t1 : Fin k1_t1_loop.trips) : Fin 2 → Nat :=
  let c0_i32_11 : BitVec 32 := 0#32
  let c0_i32_1 : BitVec 32 := 0#32
  let c1_i32 : BitVec 32 := 1#32
  let arg10 : BitVec 32 := Scf.iv c0_i32_1 c1_i32 k1_t1
  let c1_i32_10 : BitVec 32 := 1#32
  let v6 : BitVec 32 := Scalar.muli arg10 c1_i32_10
  let v7 : BitVec 32 := Scalar.addi c0_i32_11 v6
  let c2_i32_13 : BitVec 32 := 2#32
  let v19 : BitVec 32 := Scalar.shrui v7 c2_i32_13
  let v23 : Index := Scalar.indexCast v19
  let c3_i32 : BitVec 32 := 3#32
  let v20 : BitVec 32 := Scalar.andi v7 c3_i32
  let c16_i32_14 : BitVec 32 := 16#32
  let v21 : BitVec 32 := Scalar.muli v20 c16_i32_14
  let v24 : Index := Scalar.indexCast v21
  ![v23.toNat, v24.toNat]
def k1_off5 (i : grid1.Coords) (c0_i32 : BitVec 32) : Fin 4 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c0_i32_10_r3 : BitVec 32 := 0#32
  let c0_i32_11_r3 : BitVec 32 := 0#32
  ![0, v2.toNat, 0, 0]
@[reducible] def k1_t2_loop : Scf.Loop 32 :=
  let c0_i32_5 : BitVec 32 := 0#32
  let c256_i32_6 : BitVec 32 := 256#32
  let v5 : BitVec 32 := Scalar.addi c0_i32_5 c256_i32_6
  let c1_i32_7 : BitVec 32 := 1#32
  ⟨c0_i32_5, v5, c1_i32_7⟩
def k1_off6 (k1_t2 : Fin k1_t2_loop.trips) : Fin 1 → Nat :=
  let c0_i32_11 : BitVec 32 := 0#32
  let c0_i32_5 : BitVec 32 := 0#32
  let c1_i32_7 : BitVec 32 := 1#32
  let arg10 : BitVec 32 := Scf.iv c0_i32_5 c1_i32_7 k1_t2
  let c1_i32_10 : BitVec 32 := 1#32
  let v6 : BitVec 32 := Scalar.muli arg10 c1_i32_10
  let v7 : BitVec 32 := Scalar.addi c0_i32_11 v6
  let c16_i32 : BitVec 32 := 16#32
  let v8 : BitVec 32 := Scalar.muli v7 c16_i32
  let v9 : Index := Scalar.indexCast v8
  ![v9.toNat]

def k1_chk2 (v12 : IVec S16 32) (v14 : IVec S16 32) : Prop :=
  (∀ a x, ((![v12, v14] : Fin 2 → IVec S16 32) a x).toNat < S64x64.size a)
theorem k1_idx2_inb : ∀ (v12 : IVec S16 32) (v14 : IVec S16 32) (k1_hw2 : k1_chk2 v12 v14), ∀ a x, ((![v12, v14] : Fin 2 → IVec S16 32) a x).toNat < S64x64.size a := fun v12 v14 k1_hw2 => k1_hw2
def k1_off7 (k1_t2 : Fin k1_t2_loop.trips) : Fin 1 → Nat :=
  let c0_i32_11 : BitVec 32 := 0#32
  let c0_i32_5 : BitVec 32 := 0#32
  let c1_i32_7 : BitVec 32 := 1#32
  let arg10 : BitVec 32 := Scf.iv c0_i32_5 c1_i32_7 k1_t2
  let c1_i32_10 : BitVec 32 := 1#32
  let v6 : BitVec 32 := Scalar.muli arg10 c1_i32_10
  let v7 : BitVec 32 := Scalar.addi c0_i32_11 v6
  let c16_i32_12 : BitVec 32 := 16#32
  let v16 : BitVec 32 := Scalar.muli v7 c16_i32_12
  let v17 : Index := Scalar.indexCast v16
  ![v17.toNat]
def k1_off8 (k1_t2 : Fin k1_t2_loop.trips) : Fin 2 → Nat :=
  let c0_i32_11 : BitVec 32 := 0#32
  let c0_i32_5 : BitVec 32 := 0#32
  let c1_i32_7 : BitVec 32 := 1#32
  let arg10 : BitVec 32 := Scf.iv c0_i32_5 c1_i32_7 k1_t2
  let c1_i32_10 : BitVec 32 := 1#32
  let v6 : BitVec 32 := Scalar.muli arg10 c1_i32_10
  let v7 : BitVec 32 := Scalar.addi c0_i32_11 v6
  let c2_i32_13 : BitVec 32 := 2#32
  let v19 : BitVec 32 := Scalar.shrui v7 c2_i32_13
  let v23 : Index := Scalar.indexCast v19
  let c3_i32 : BitVec 32 := 3#32
  let v20 : BitVec 32 := Scalar.andi v7 c3_i32
  let c16_i32_14 : BitVec 32 := 16#32
  let v21 : BitVec 32 := Scalar.muli v20 c16_i32_14
  let v24 : Index := Scalar.indexCast v21
  ![v23.toNat, v24.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x128x64x64 : Shape := ⟨4, ![1, 128, 64, 64]⟩
abbrev S64x64 : Shape := ⟨2, ![64, 64]⟩
abbrev S1x64x64x64 : Shape := ⟨4, ![1, 64, 64, 64]⟩
abbrev S4096 : Shape := ⟨1, ![4096]⟩
abbrev S_ : Shape := ⟨0, ![]⟩
abbrev S64x64x64 : Shape := ⟨3, ![64, 64, 64]⟩
abbrev S64x4096 : Shape := ⟨2, ![64, 4096]⟩
abbrev S4096x64 : Shape := ⟨2, ![4096, 64]⟩
abbrev S4096x1 : Shape := ⟨2, ![4096, 1]⟩
abbrev S4096x4096 : Shape := ⟨2, ![4096, 4096]⟩
abbrev S1x4096 : Shape := ⟨2, ![1, 4096]⟩
abbrev S1 : Shape := ⟨1, ![1]⟩
abbrev S1x1 : Shape := ⟨2, ![1, 1]⟩
abbrev S1x192x64x64 : Shape := ⟨4, ![1, 192, 64, 64]⟩

abbrev nBuf : Space → Nat
  | .hbm => 67
  | .vmem => 0
  | .smem => 0
  | _ => 0

abbrev bufTy : (tb : Table) → Fin (tcTables nBuf tb) → BufTy
  | .hbm, ⟨0, _⟩ => ⟨S1x128x64x64, .f32⟩
  | .hbm, ⟨1, _⟩ => ⟨S64x64, .i32⟩
  | .hbm, ⟨2, _⟩ => ⟨S1x64x64x64, .f32⟩
  | .hbm, ⟨3, _⟩ => ⟨S1x64x64x64, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S64x64x64, .f32⟩
  | .hbm, ⟨9, _⟩ => ⟨S64x4096, .f32⟩
  | .hbm, ⟨10, _⟩ => ⟨S4096x64, .f32⟩
  | .hbm, ⟨11, _⟩ => ⟨S4096x64, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x64, .f32⟩
  | .hbm, ⟨20, _⟩ => ⟨S4096x64, .f32⟩
  | .hbm, ⟨21, _⟩ => ⟨S64x4096, .f32⟩
  | .hbm, ⟨22, _⟩ => ⟨S4096x4096, .f32⟩
  | .hbm, ⟨23, _⟩ => ⟨S1x4096, .i1⟩
  | .hbm, ⟨24, _⟩ => ⟨S_, .f32⟩
  | .hbm, ⟨25, _⟩ => ⟨S4096x4096, .i1⟩
  | .hbm, ⟨26, _⟩ => ⟨S4096x4096, .f32⟩
  | .hbm, ⟨27, _⟩ => ⟨S4096x4096, .f32⟩
  | .hbm, ⟨28, _⟩ => ⟨S4096x4096, .i32⟩
  | .hbm, ⟨29, _⟩ => ⟨S_, .f32⟩
  | .hbm, ⟨30, _⟩ => ⟨S_, .i32⟩
  | .hbm, ⟨31, _⟩ => ⟨S4096, .f32⟩
  | .hbm, ⟨32, _⟩ => ⟨S4096, .i32⟩
  | .hbm, ⟨33, _⟩ => ⟨S64x64x64, .f32⟩
  | .hbm, ⟨34, _⟩ => ⟨S64x4096, .f32⟩
  | .hbm, ⟨35, _⟩ => ⟨S4096x64, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S1x1, .i32⟩
  | .hbm, ⟨49, _⟩ => ⟨S4096x1, .i32⟩
  | .hbm, ⟨50, _⟩ => ⟨S4096x1, .i1⟩
  | .hbm, ⟨51, _⟩ => ⟨S4096x1, .i1⟩
  | .hbm, ⟨52, _⟩ => ⟨S_, .i1⟩
  | .hbm, ⟨53, _⟩ => ⟨S4096, .i1⟩
  | .hbm, ⟨54, _⟩ => ⟨S4096x64, .f32⟩
  | .hbm, ⟨55, _⟩ => ⟨S4096x64, .i1⟩
  | .hbm, ⟨56, _⟩ => ⟨S_, .f32⟩
  | .hbm, ⟨57, _⟩ => ⟨S4096x64, .f32⟩
  | .hbm, ⟨58, _⟩ => ⟨S4096x64, .f32⟩
  | .hbm, ⟨59, _⟩ => ⟨S4096x1, .i1⟩
  | .hbm, ⟨60, _⟩ => ⟨S_, .f32⟩
  | .hbm, ⟨61, _⟩ => ⟨S4096x64, .i1⟩
  | .hbm, ⟨62, _⟩ => ⟨S4096x64, .f32⟩
  | .hbm, ⟨63, _⟩ => ⟨S4096x64, .f32⟩
  | .hbm, ⟨64, _⟩ => ⟨S64x4096, .f32⟩
  | .hbm, ⟨65, _⟩ => ⟨S1x64x64x64, .f32⟩
  | .hbm, ⟨66, _⟩ => ⟨S1x192x64x64, .f32⟩
  | _, _ => ⟨S1x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_call1_v0 : Ref sig .tc := ⟨.hbm, 28, rfl⟩
abbrev main_call1_cst : Ref sig .tc := ⟨.hbm, 29, rfl⟩
abbrev main_call1_c : Ref sig .tc := ⟨.hbm, 30, rfl⟩
abbrev main_call1_v1_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v24 : Ref sig .tc := ⟨.hbm, 58, rfl⟩
abbrev main_v25 : Ref sig .tc := ⟨.hbm, 59, rfl⟩
abbrev main_cst_2 : Ref sig .tc := ⟨.hbm, 60, rfl⟩
abbrev main_call3_v0 : Ref sig .tc := ⟨.hbm, 61, rfl⟩
abbrev main_call3_v1 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩

abbrev nD : Nat := 1
abbrev τ : Topo := Topo.v7x

variable {F : FTy → Type} [FloatOps F]
-- ==== Proof.Setup.lean ====
/-
  The SparseCore call of the channel shift kernel, set up: the launch's configuration, the resource algebra, the names of
  the buffers a subcore works on, and the two functions the proof states contents by — one plane of the result (`shifted`)
  and the whole result (`shiftAll`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch's configuration -/

/-- The labels the SparseCore layer is built over: the kernels' and the TensorCore pipeline's. -/
abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes, the TensorCore pipeline, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- Where the pipeline's rounds sit in the algebra. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The result, as a function of the input, the indices and the flags -/

theorem idx_word_lt (w : BitVec 32) (hw : w.toNat < 4096) : (w >>> 6).toNat < 64 := by
  rw [BitVec.toNat_ushiftRight, Nat.shiftRight_eq_div_pow]; omega

/-- Row and column of position `w` of a plane. -/
def posRow (w : BitVec 32) : Fin 64 := ⟨w.toNat / 64 % 64, Nat.mod_lt _ (by decide)⟩
def posCol (w : BitVec 32) : Fin 64 := ⟨w.toNat % 64, Nat.mod_lt _ (by decide)⟩
/-- The flat position of row `r`, column `c`. -/
def flatPos (r c : Fin 64) : S4096.Idx := ix1 ⟨64 * r.val + c.val, by omega⟩

variable [FloatOps F]

/-- One plane of the result: at position `p` the plane of the input at position `I p`, times the flag at `p`. -/
def shifted (pl : S64x64.Idx → Elt F .f32) (I : S4096.Idx → BitVec 32) (Fl : S4096.Idx → Elt F .f32) : S64x64.Idx → Elt F .f32 :=
  fun j => FloatOps.mulf (φ := .f32) (pl (ix2 (posRow (I (flatPos (j 0) (j 1)))) (posCol (I (flatPos (j 0) (j 1)))))) (Fl (flatPos (j 0) (j 1)))

/-- Plane `k` of the input. -/
def plane (X : S1x128x64x64.Idx → Elt F .f32) (k : Fin 128) : S64x64.Idx → Elt F .f32 := fun j => X (ix4 0 k (j 0) (j 1))

/-- The whole result of the SparseCore call. -/
def shiftAll (X : S1x128x64x64.Idx → Elt F .f32) (I : S4096.Idx → BitVec 32) (Fl : S4096.Idx → Elt F .f32) : S1x64x64x64.Idx → Elt F .f32 :=
  fun y => shifted (plane X ⟨(y 1).val, by have := (y 1).isLt; simp [S1x64x64x64] at this; omega⟩) I Fl (ix2 (y 2) (y 3))

end Cert.Proof.Shift

end
-- ==== Proof.Region.lean ====
/-
  The TensorCore call of the channel shift kernel: the body at either grid point over any float values, the proof data of
  the pipeline around it, and the call itself — from the keys and the flags at any contents to the indices it leaves.
-/
module

public import proofs.«01_k».proof.Proof.Setup
public import Idealize.ShloMosaic.Lib.Pipeline.RegionArrays
public import Idealize.ShloMosaic.Lib.Pipeline.FrameBody
public import Idealize.ShloMosaic.Lib.Pipeline.Value
public import Idealize.ShloMosaic.Lib.VecWindow

@[expose] public section

noncomputable section

namespace Cert.Proof.Shift

open Cert.KernelIdeal Cert.KernelIdeal.Gen

open Idealize.ShloMosaic Idealize.ShloMosaic.ValueIdx Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

/-! ## The body at one grid point -/

/-- The columns of the keys that point `i` works on. -/
def colsAt (i : grid0.Coords) (x : Vec F S64x4096 .f32) : Vec F S64x2048 .f32 := fun j =>
  x ((Rect.unit (s := S64x4096) (k0_off1 i) S64x2048.size (k0_off1_inb i)).emb j)

/-- What the body stores at point `i`: the keys `x` normalized against its columns there, flagged by `fl`. -/
def outAt (i : grid0.Coords) (x : Vec F S64x4096 .f32) (fl : Vec F S4096x1 .i32) : IVec S1x1x2048 32 :=
  k0_pay2 (k0_pay1 x) (colsAt i x) fl

/-- The body at the first point: it normalizes the keys into the scratch buffer, whatever that held, and stores the indices. -/
theorem body_first [∀ e, Nonempty (Elt F e)] (d : Dev nD) (E : Set ℕ) (i : grid0.Coords) (hi : (i 0).val = 0)
    (a1 : Memref sig .tc .vmem S64x4096 .f32) (h1 : a1.IsWhole) (a2 : Memref sig .tc .vmem S4096x1 .i32) (h2 : a2.IsWhole)
    (a3 : Memref sig .tc .vmem S1x1x2048 .i32) (h3 : a3.IsWhole) (a4 : Memref sig .tc .vmem S64x4096 .f32) (h4 : a4.IsWhole)
    (x : Vec F S64x4096 .f32) (fl : Vec F S4096x1 .i32) (K : PUnit → sProp 𝕄) :
    iprop(owns (d : Thread nD τ) a1 fullShare x ∗ owns (d : Thread nD τ) a2 fullShare fl ∗ (∃ y, owns (d : Thread nD τ) a3 fullShare y)
        ∗ (∃ s, owns (d : Thread nD τ) a4 fullShare s)
        ∗ (iprop(owns (d : Thread nD τ) a1 fullShare x ∗ owns (d : Thread nD τ) a2 fullShare fl ∗ owns (d : Thread nD τ) a3 fullShare (outAt i x fl)
            ∗ owns (d : Thread nD τ) a4 fullShare (k0_pay1 x)) -∗ K ⟨⟩))
      ⊢ wp frame (wpE (defs₀ (F := F)) 𝒱₀ d none) E (cc0__argmax_body i a1 h1 a2 h2 a3 h3 a4 h4) K := by
  simp only [cc0__argmax_body_eq_skeleton]; unfold cc0__argmax_body_skel
  unfold owns
  iintro ⟨⟨%f1, %hf1, H1⟩, ⟨%f2, %hf2, H2⟩, ⟨%y, %f3, -, H3⟩, ⟨%s, %f4, -, H4⟩, Hk⟩
  subst hf1 hf2
  have hc : Scalar.cmpi .ne (Scalar.extui (Scalar.cmpi .eq (BitVec.ofNat 32 (i 0).val) 0#32) : BitVec 32) 0#32 = 1#1 := by
    rw [hi]; decide
  rw [dif_pos hc]
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    unfold body_first.sl.v3 body_first.sl.H4_1
    exact (View.read_writes_full (s := S1x1x2048) a3.view f3 _ _ []).trans
      (by rw [View.readCov_full (s := S64x4096), View.readAt_full (s := S64x4096), View.readAt_full (s := S4096x1)]; rfl)
  iexists _; isplitr
  swap; · iexact H4
  ipureintro
  unfold body_first.sl.H4_1
  exact (View.read_writes_full (s := S64x4096) a4.view f4 _ _ []).trans (by rw [View.readAt_full (s := S64x4096)])

/-- The body at a later point: the scratch buffer holds the normalized keys, which it only reads. -/
theorem body_later [∀ e, Nonempty (Elt F e)] (d : Dev nD) (E : Set ℕ) (i : grid0.Coords) (hi : (i 0).val ≠ 0)
    (a1 : Memref sig .tc .vmem S64x4096 .f32) (h1 : a1.IsWhole) (a2 : Memref sig .tc .vmem S4096x1 .i32) (h2 : a2.IsWhole)
    (a3 : Memref sig .tc .vmem S1x1x2048 .i32) (h3 : a3.IsWhole) (a4 : Memref sig .tc .vmem S64x4096 .f32) (h4 : a4.IsWhole)
    (x : Vec F S64x4096 .f32) (fl : Vec F S4096x1 .i32) (K : PUnit → sProp 𝕄) :
    iprop(owns (d : Thread nD τ) a1 fullShare x ∗ owns (d : Thread nD τ) a2 fullShare fl ∗ (∃ y, owns (d : Thread nD τ) a3 fullShare y)
        ∗ owns (d : Thread nD τ) a4 fullShare (k0_pay1 x)
        ∗ (iprop(owns (d : Thread nD τ) a1 fullShare x ∗ owns (d : Thread nD τ) a2 fullShare fl ∗ owns (d : Thread nD τ) a3 fullShare (outAt i x fl)
            ∗ owns (d : Thread nD τ) a4 fullShare (k0_pay1 x)) -∗ K ⟨⟩))
      ⊢ wp frame (wpE (defs₀ (F := F)) 𝒱₀ d none) E (cc0__argmax_body i a1 h1 a2 h2 a3 h3 a4 h4) K := by
  simp only [cc0__argmax_body_eq_skeleton]; unfold cc0__argmax_body_skel
  unfold owns
  iintro ⟨⟨%f1, %hf1, H1⟩, ⟨%f2, %hf2, H2⟩, ⟨%y, %f3, -, H3⟩, ⟨%f4, %hf4, H4⟩, Hk⟩
  subst hf1 hf2
  have hc : ¬ Scalar.cmpi .ne (Scalar.extui (Scalar.cmpi .eq (BitVec.ofNat 32 (i 0).val) 0#32) : BitVec 32) 0#32 = 1#1 := by
    have h2 : (i 0).val < 2 := (i 0).isLt
    have h1 : (i 0).val = 1 := by omega
    rw [h1]; decide
  rw [dif_neg hc]
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_full (s := S1x1x2048) a3.view f3 _ _ []).trans
      (by rw [View.readAt_full (s := S64x4096), View.readAt_full (s := S4096x1), hf4]; rfl)
  iexists f4; isplitr
  · ipureintro; exact hf4
  iexact H4

/-! ## The proof data of the pipeline -/

/-- The pipeline reads no table ahead of its grid. -/
abbrev adm : (p : Fin 1) → (pcfgs (F := F) p).Adm := fun p => (cfgs p).toPCfg_adm

/-- What the call leaves at point `t` for keys `kx` and flags `fl`. -/
def outBlk (kx : Vec F S64x4096 .f32) (fl : Vec F S4096x1 .i32) (t : Fin grid0.N) : IVec S1x1x2048 32 := outAt (grid0.coords t) kx fl

variable (kx : Dev nD → Vec F S64x4096 .f32) (fl : Dev nD → Vec F S4096x1 .i32) (o0 : Dev nD → Vec F S2x1x2048 .i32)

/-- The scratch buffer between points: anything before the first, the normalized keys after it. -/
def scratchAt (d : Dev nD) (n : ℕ) : sProp 𝕄 :=
  if n = 0 then iprop(∃ f : Buf (Elt F) ((d : Thread nD τ).loc cc0_scratch0), ((d : Thread nD τ).loc cc0_scratch0) ↦{fullShare} f)
  else iprop(((d : Thread nD τ).loc cc0_scratch0) ↦{fullShare} (k0_pay1 (kx d) : Buf (Elt F) ((d : Thread nD τ).loc cc0_scratch0)))

/-- The proof data: the arrays at their contents, every input left as found, the indices at each point; the scratch
    buffer between points; the starts of the SparseCore call owed throughout, every wait recorded at the lowest level. -/
def dats (_ : Fin 1) (d : Dev nD) : Dat τ (Elt F) (HIx 1) ℕ UU ℕ cfg0 d where
  A w := match w with
    | ⟨0, _⟩ => kx d
    | ⟨1, _⟩ => fl d
    | ⟨2, _⟩ => o0 d
  after w t := match w with
    | ⟨0, _⟩ => kx d
    | ⟨1, _⟩ => fl d
    | ⟨2, _⟩ => outBlk (kx d) (fl d) t
  Φ t := scratchAt kx d t.val
  q _ := fullShare
  owed _ := (K (F := F)).Otc d 0
  recorded _ := {p | (K (F := F)).lev (T d, p.1) p.2 ≤ 0}

theorem after_0 (d : Dev nD) (t : Fin cfg0.N) : (dats kx fl o0 0 d).after 0 t = kx d := by dsimp only [dats]
theorem after_1 (d : Dev nD) (t : Fin cfg0.N) : (dats kx fl o0 0 d).after 1 t = fl d := by dsimp only [dats]
theorem after_2 (d : Dev nD) (t : Fin cfg0.N) : (dats kx fl o0 0 d).after 2 t = outBlk (kx d) (fl d) t := by dsimp only [dats]

/-- The keys' block at every point is all the keys, the flags' all the flags. -/
theorem block_0 (d : Dev nD) (t : Fin cfg0.N) : (dats kx fl o0 0 d).blockOf 0 t = kx d := by
  unfold Dat.blockOf
  funext j
  rw [View.read_apply]
  refine (cast_eq _ _).trans ?_
  refine (congrArg (kx d) (funext fun a => Fin.ext ?_) : kx d _ = kx d j)
  rcases fin_N0 t with rfl | rfl <;> fin_cases a <;> exact (Nat.zero_add _).trans (Nat.one_mul _)

theorem block_1 (d : Dev nD) (t : Fin cfg0.N) : (dats kx fl o0 0 d).blockOf 1 t = fl d := by
  unfold Dat.blockOf
  funext j
  rw [View.read_apply]
  refine (cast_eq _ _).trans ?_
  refine (congrArg (fl d) (funext fun a => Fin.ext ?_) : fl d _ = fl d j)
  rcases fin_N0 t with rfl | rfl <;> fin_cases a <;> exact (Nat.zero_add _).trans (Nat.one_mul _)

theorem before_0 (d : Dev nD) (t : Fin cfg0.N) (x) : (dats kx fl o0 0 d).before 0 t x = kx d := by
  refine ((dats kx fl o0 0 d).before_in_eq_fetched 0 rfl (fun _ => rfl) (fun _ _ _ => rfl) (fun t => ?_) t x).trans ?_
  · rw [after_0, block_0]; rfl
  · exact block_0 kx fl o0 d t

theorem before_1 (d : Dev nD) (t : Fin cfg0.N) (x) : (dats kx fl o0 0 d).before 1 t x = fl d := by
  refine ((dats kx fl o0 0 d).before_in_eq_fetched 1 rfl (fun _ => rfl) (fun _ _ _ => rfl) (fun t => ?_) t x).trans ?_
  · rw [after_1, block_1]; rfl
  · exact block_1 kx fl o0 d t

/-! ## The body obligation -/

theorem owns_scratch (d : Dev nD) (s : Vec F S64x4096 .f32) :
    (owns (d : Thread nD τ) (Memref.whole cc0_scratch0) fullShare s : sProp 𝕄)
      = iprop(((d : Thread nD τ).loc cc0_scratch0) ↦{fullShare} (s : Buf (Elt F) ((d : Thread nD τ).loc cc0_scratch0))) :=
  owns_whole _ _ _ _

/-- The body at every point, between the states the proof data name. -/
theorem body_point [∀ e, Nonempty (Elt F e)] (d : Dev nD) (t : Fin cfg0.N) :
    iprop(scratchAt kx d t.val ∗ (dats kx fl o0 0 d).owesAt none t.castSucc
        ∗ (∃ x, owns (d : Thread nD τ) (st0_0 t) fullShare ((dats kx fl o0 0 d).before 0 t x))
        ∗ (∃ x, owns (d : Thread nD τ) (st0_1 t) fullShare ((dats kx fl o0 0 d).before 1 t x))
        ∗ (∃ x, owns (d : Thread nD τ) (st0_2 t) fullShare ((dats kx fl o0 0 d).before 2 t x)))
      ⊢ wp frame (wpE (defs₀ (F := F)) 𝒱₀ d none) Set.univ (bodyAt0 t) (fun _ =>
        iprop(scratchAt kx d (t.val + 1) ∗ (dats kx fl o0 0 d).owesAt none t.succ
          ∗ owns (d : Thread nD τ) (st0_0 t) fullShare ((dats kx fl o0 0 d).after 0 t)
          ∗ owns (d : Thread nD τ) (st0_1 t) fullShare ((dats kx fl o0 0 d).after 1 t)
          ∗ owns (d : Thread nD τ) (st0_2 t) fullShare ((dats kx fl o0 0 d).after 2 t))) := by
  simp only [before_0, before_1]
  rw [after_0, after_1, after_2, show (dats kx fl o0 0 d).owesAt none t.succ = (dats kx fl o0 0 d).owesAt none t.castSucc from rfl]
  unfold scratchAt bodyAt0
  rw [if_neg (Nat.succ_ne_zero _), ← owns_scratch]
  rcases fin_N0 t with rfl | rfl
  · rw [if_pos (show t0_0.val = 0 from rfl)]
    iintro ⟨⟨%f, Hs⟩, Ho, ⟨%x0, H0⟩, ⟨%x1, H1⟩, ⟨%x2, H2⟩⟩
    iapply (body_first d Set.univ (grid0.coords t0_0) (by decide) _ _ _ _ _ _ _ _ (kx d) (fl d) _)
    isplitl [H0]; · iexact H0
    isplitl [H1]; · iexact H1
    isplitl [H2]; · iexists _; iexact H2
    isplitl [Hs]; · iexists f; rw [owns_scratch]; iexact Hs
    iintro ⟨H0, H1, H2, Hs⟩
    isplitl [Hs]; · iexact Hs
    isplitl [Ho]; · iexact Ho
    isplitl [H0]; · iexact H0
    isplitl [H1]; · iexact H1
    iexact H2
  · rw [if_neg (show ¬ t0_1.val = 0 from Nat.one_ne_zero)]
    iintro ⟨Hs, Ho, ⟨%x0, H0⟩, ⟨%x1, H1⟩, ⟨%x2, H2⟩⟩
    iapply (body_later d Set.univ (grid0.coords t0_1) (by decide) _ _ _ _ _ _ _ _ (kx d) (fl d) _)
    isplitl [H0]; · iexact H0
    isplitl [H1]; · iexact H1
    isplitl [H2]; · iexists _; iexact H2
    isplitl [Hs]; · iexact Hs
    iintro ⟨H0, H1, H2, Hs⟩
    isplitl [Hs]; · iexact Hs
    isplitl [Ho]; · iexact Ho
    isplitl [H0]; · iexact H0
    isplitl [H1]; · iexact H1
    iexact H2

theorem defs₀_row (t : Fin cfg0.N) : defs₀ (F := F) .tc cfg0.body (cfg0.bodyArgs t (cfg0.slots t)) = bodyAt0 t := by
  unfold defs₀; rfl

theorem body_obligation [∀ e, Nonempty (Elt F e)] (d : Dev nD) : BodyObligation (dats kx fl o0 0 d) (defs₀ (F := F)) 𝒱₀ none Set.univ := fun t => by
  rw [bigSep_W0, bigSep_W0, defs₀_row]
  exact triple_restated (body_point kx fl o0 d t) rfl .rfl fun _ => .rfl

/-! ## What the call leaves -/

/-- The indices, all of them: block `t` is what the body stores at point `t`. -/
def idxAll (kx : Vec F S64x4096 .f32) (fl : Vec F S4096x1 .i32) : Vec F S2x1x2048 .i32 := fun j =>
  outBlk kx fl (⟨(j 0).val, by rw [N_0]; exact (j 0).isLt⟩ : Fin grid0.N) (ix3 0 0 (j 2))

theorem idxAll_at (kx : Vec F S64x4096 .f32) (fl : Vec F S4096x1 .i32) (t : Fin grid0.N) (k : S2x1x2048.Idx) (j : S1x1x2048.Idx)
    (h0 : (k 0).val = t.val) (h2 : (k 2).val = (j 2).val) : idxAll kx fl k = outBlk kx fl t j := by
  unfold idxAll
  congr 1
  · exact Fin.ext h0
  · funext a
    fin_cases a
    · exact Subsingleton.elim (α := Fin 1) _ _
    · exact Subsingleton.elim (α := Fin 1) _ _
    · exact Fin.ext h2

/-- Where the indices' block at `t` sits in the array. -/
theorem blk_2 (t : Fin cfg0.N) (j : S1x1x2048.Idx) :
    ((((cfg0.win 2).blk t).view.emb j : S2x1x2048.Idx) 0).val = t.val ∧ ((((cfg0.win 2).blk t).view.emb j : S2x1x2048.Idx) 2).val = (j 2).val := by
  have h0 : (j 0).val = 0 := Nat.lt_one_iff.mp (j 0).isLt
  rcases fin_N0 t with rfl | rfl
  · exact ⟨(by show 0 * 1 + 1 * (j 0).val = 0; omega), (by show 0 * 2048 + 1 * (j 2).val = _; omega)⟩
  · exact ⟨(by show 1 * 1 + 1 * (j 0).val = 1; omega), (by show 0 * 2048 + 1 * (j 2).val = _; omega)⟩

/-- Every cell of the array is in one of its blocks. -/
theorem blk_2_onto (i : S2x1x2048.Idx) : ∃ (t : Fin cfg0.N) (k : S1x1x2048.Idx), ((cfg0.win 2).blk t).view.emb k = i := by
  refine ⟨⟨(i 0).val, (i 0).isLt.trans_eq N_0.symm⟩, ix3 0 0 (i 2), ?_⟩
  have h := blk_2 ⟨(i 0).val, (i 0).isLt.trans_eq N_0.symm⟩ (ix3 0 0 (i 2))
  funext a
  fin_cases a
  · exact Fin.ext h.1
  · exact Subsingleton.elim (α := Fin 1) _ _
  · exact Fin.ext h.2

theorem final_2 (d : Dev nD) : (dats kx fl o0 0 d).arrAt 2 cfg0.N = idxAll (kx d) (fl d) := by
  refine (dats kx fl o0 0 d).arrAt_eq_of_cover 2 _ (fun t _ => ?_) (fun i => ?_)
  · funext j
    rw [View.read_apply]
    refine Eq.trans ?_ (cast_eq _ _).symm
    exact (idxAll_at (kx d) (fl d) t _ j (blk_2 t j).1 (blk_2 t j).2).symm
  · obtain ⟨t, k, hk⟩ := blk_2_onto i
    exact ⟨t, flush0_2 t, Eq.mp (congrArg (· ∈ _) hk) (View.emb_mem_set _ k)⟩

theorem final_0 (d : Dev nD) : (dats kx fl o0 0 d).arrAt 0 cfg0.N = kx d := (dats kx fl o0 0 d).arrAt_in 0 rfl _
theorem final_1 (d : Dev nD) : (dats kx fl o0 0 d).arrAt 1 cfg0.N = fl d := (dats kx fl o0 0 d).arrAt_in 1 rfl _

/-! ## The call -/

/-- The call as a region of the program: entered with the three arrays and the starts owed, left with the same and the
    indices in place of the third array; every wait recorded stays at the lowest level. -/
def reg [∀ e, Nonempty (Elt F e)] : Pipeline.RegionSeg (pcfgs (F := F)) adm (dats kx fl o0) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation kx fl o0 c).loose
  hwaits c := Pipeline.cellsWaits_of_cut (Pipeline.pin pcfgs adm) (dats kx fl o0) none 0 c 0 ((K (F := F)).Otc c 0) (fun _ => rfl)
    (fun _ _ => Finset.mem_univ _) (fun _ _ => le_rfl)
    (fun g i h => ⟨Finset.mem_univ _, Nat.lt_of_lt_of_le (Nat.succ_pos _) (SparseCore.Cfg.lev_of_Otc_pos (K := K (F := F)) h)⟩)
  pre c := iprop((dats kx fl o0 0 c).arrays ((dats kx fl o0 0 c).arrAt · 0) ∗ ∃ W, ⌜(K (F := F)).WBelow (T c) W 0⌝ ∗ owes (T c) ((K (F := F)).Otc c 0) W)
  post c := iprop((dats kx fl o0 0 c).arrays ((dats kx fl o0 0 c).arrAt · cfg0.N) ∗ ∃ W, ⌜(K (F := F)).WBelow (T c) W 0⌝ ∗ owes (T c) ((K (F := F)).Otc c 0) W)
  X _ := iprop(emp)
  Y _ := iprop(emp)
  Z _ := iprop(emp)
  hentry c := by
    rw [Pipeline.ownSems0_none, Pipeline.prefHeld_of_none _ rfl]
    iintro ⟨⟨Ha, %W, %hW, HO⟩, -, -⟩
    imodintro
    isplitl [Ha]; · iexact Ha
    isplitr; · iempintro
    isplitl [HO]
    · iexists W; isplitr; · ipureintro; exact fun p hp => Or.inl (hW p hp)
      iexact HO
    isplitl <;> iempintro
  hin c := by
    show _ ⊢ scratchAt kx c 0
    unfold scratchAt
    rw [if_pos rfl]
    iintro ⟨-, -, H⟩
    iapply (Entails.of_eq (scopedRest0_eq c)); iexact H
  hout c := by
    show scratchAt kx c cfg0.N ⊢ _
    unfold scratchAt
    rw [if_neg (by decide), Pipeline.ownSems0_none]
    iintro H
    isplitr; · iempintro
    isplitr; · iempintro
    iapply (Entails.of_eq (scopedRest0_eq c).symm)
    iexists _; iexact H
  hexit c := by
    iintro ⟨Ha, ⟨%W, %hW, HO⟩, -, -⟩
    imodintro
    isplitl [Ha]; · iexact Ha
    iexists W; isplitr
    · ipureintro
      intro p hp
      rcases hW hp with h | ⟨w, s, rfl⟩
      · exact h
      · exact le_rfl
    iexact HO

/-- The three arrays of the call: the keys, the flags as words, the indices. -/
abbrev keyLoc (d : Dev nD) : Loc nD τ sig := (SparseCore.T d).loc main_v1
abbrev flagLoc (d : Dev nD) : Loc nD τ sig := (SparseCore.T d).loc main_v6
abbrev bestLoc (d : Dev nD) : Loc nD τ sig := (SparseCore.T d).loc main_v8

/-- The three arrays and what the core owes, with the third array at `o`. -/
def callSt (o : Dev nD → Vec F S2x1x2048 .i32) (d : Dev nD) : sProp 𝕄 :=
  iprop((keyLoc d ↦{fullShare} (kx d : Buf (Elt F) (keyLoc d))) ∗ (flagLoc d ↦{fullShare} (fl d : Buf (Elt F) (flagLoc d))) ∗ (bestLoc d ↦{fullShare} (o d : Buf (Elt F) (bestLoc d)))
    ∗ ∃ W, ⌜(K (F := F)).WBelow (T d) W 0⌝ ∗ owes (T d) ((K (F := F)).Otc d 0) W)

/-- The pipeline's arrays, window by window. -/
theorem arrays_eq (d : Dev nD) (G : (w : Fin 3) → Buf (Elt F) ((cfg0.win w).arr.view.loc (d : Thread nD τ))) :
    (dats kx fl o0 0 d).arrays G = iprop((keyLoc d ↦{fullShare} (G 0 : Buf (Elt F) (keyLoc d))) ∗ (flagLoc d ↦{fullShare} (G 1 : Buf (Elt F) (flagLoc d)))
      ∗ (bestLoc d ↦{fullShare} (G 2 : Buf (Elt F) (bestLoc d)))) := by
  rw [Pipeline.arrays_eq (Pipeline.pin (pcfgs (F := F)) adm) (dats kx fl o0) (p := 0) d arr_whole0 (fun w => (dats kx fl o0 0 d).share_full (fun _ => rfl) w) G]
  exact bigSep_W0 _

/-- The call as the pipeline's own program, and as the program @main has in its place. -/
abbrev callProg : Prog (TpuEff nD τ sig (Elt F) (ΛP (F := F)) .tc) PUnit := .op (.customCall (Pipeline.entry 0) ()) fun _ => .ret ⟨⟩

theorem callProg_lift : SparseCore.liftProg (Q := 1) (callProg (F := F)) = Prog.lift (.customCall (SparseCore.inner (Pipeline.entry 0)) ()) := rfl

theorem pin_inj : Function.Injective (Pipeline.cellOf (nD := nD) (τ := τ) (Pipeline.pin (pcfgs (F := F)) adm)) := cellOf_inj

set_option backward.isDefEq.respectTransparency.types false in
theorem region_wp [∀ e, Nonempty (Elt F e)] (d : Dev nD) (Φ : PUnit → sProp 𝕄) :
    iprop((iprop(boundary (d.tc : Thread nD τ) ∗ (reg kx fl o0).post d) -∗ wp frame (wpE (Pipeline.defs (pcfgs (F := F)) defs₀) 𝒱₀.lift (d.tc : Thread nD τ) none) Set.univ (.ret ⟨⟩) Φ)
        ∗ boundary (d.tc : Thread nD τ) ∗ (reg kx fl o0).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) 𝒱₀.lift (d.tc : Thread nD τ) none) Set.univ (.op (.customCall (Pipeline.entry 0) ()) fun _ => .ret ⟨⟩) Φ :=
by
  have h1 := Pipeline.RegionSeg.wp (p := 0) (pcfgs (F := F)) adm (dats kx fl o0) none pin_inj EP defs₀ 𝒱₀ (K (F := F)).L (K (F := F)).lev
  have h2 := h1 (reg kx fl o0) d none (fun _ h => absurd h (Option.not_mem_none _)) (α := PUnit)
  have h3 := h2 (fun _ => .ret ⟨⟩) Φ
  convert h3

/-- The call under the pipeline's own body table. -/
theorem argmax_inner [∀ e, Nonempty (Elt F e)] (d : Dev nD) (Φ : PUnit → sProp 𝕄) :
    iprop(boundary (T d) ∗ callSt kx fl o0 d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (iprop(boundary (T d) ∗ callSt kx fl (fun d => idxAll (kx d) (fl d)) d) -∗ Φ ⟨⟩))
      ⊢ wp frame (wpE (D (F := F)) 𝒱 (T d) none) Set.univ (callProg (F := F)) Φ := by
  refine BIBase.Entails.trans ?_ (region_wp kx fl o0 d Φ)
  unfold callSt
  iintro ⟨Hb, ⟨H1, H6, H8, HO⟩, #Hl, Hg, Ht, Hk⟩
  isplitl [Hk]
  · iintro ⟨Hb, Hp⟩
    rw [wp_ret]
    imodintro
    iapply Hk
    isplitl [Hb]; · iexact Hb
    icases (Entails.of_eq (show (reg kx fl o0).post d = iprop((dats kx fl o0 0 d).arrays ((dats kx fl o0 0 d).arrAt · cfg0.N)
      ∗ ∃ W, ⌜(K (F := F)).WBelow (T d) W 0⌝ ∗ owes (T d) ((K (F := F)).Otc d 0) W) from rfl)) $$ Hp with ⟨Ha, HO⟩
    icases (Entails.of_eq (arrays_eq kx fl o0 d _)) $$ Ha with ⟨H1, H6, H8⟩
    rw [final_0, final_1, final_2]
    isplitl [H1]; · iexact H1
    isplitl [H6]; · iexact H6
    isplitl [H8]; · iexact H8
    iexact HO
  isplitl [Hb]; · iexact Hb
  isplitl [H1 H6 H8 HO]
  · iapply (Entails.of_eq (show iprop((dats kx fl o0 0 d).arrays ((dats kx fl o0 0 d).arrAt · 0)
      ∗ ∃ W, ⌜(K (F := F)).WBelow (T d) W 0⌝ ∗ owes (T d) ((K (F := F)).Otc d 0) W) = (reg kx fl o0).pre d from rfl))
    isplitr [HO]
    · iapply (Entails.of_eq (arrays_eq kx fl o0 d _).symm)
      isplitl [H1]; · iexact H1
      isplitl [H6]; · iexact H6
      iexact H8
    iexact HO
  isplitr; · iexact Hl
  isplitl [Hg] <;> iassumption

/-- The call from the three arrays, at any continuation: the keys and the flags come back as they were, the third array
    holds the indices. -/
theorem argmax_call [∀ e, Nonempty (Elt F e)] (d : Dev nD) (Φ : PUnit → sProp 𝕄) :
    iprop(boundary (T d) ∗ callSt kx fl o0 d ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (iprop(boundary (T d) ∗ callSt kx fl (fun d => idxAll (kx d) (fl d)) d) -∗ Φ ⟨⟩))
      ⊢ wp frame (wpE ((K (F := F)).defs D) 𝒱 (T d) none) Set.univ (Prog.lift (.customCall (SparseCore.inner (Pipeline.entry 0)) ())) Φ := by
  have h := (K (F := F)).wp_liftProg (Name := ℕ) (U := UU) D 𝒱 (T d) Set.univ none (callProg (F := F)) Φ
  rw [callProg_lift] at h
  exact (argmax_inner kx fl o0 d Φ).trans h

end Cert.Proof.Shift

end
-- ==== Proof.Trip.lean ====
/-
  One trip of the SparseCore kernel's loop over a plane: sixteen positions of the result written at what `shifted` says, the
  scratches it reads kept.
-/
module

public import proofs.«01_k».proof.Proof.Setup
public import Idealize.ShloMosaic.Lib.ViewIndex
public import Idealize.ShloMosaic.Lib.Writes

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S1x128x64x64 EltTy.f32)
local notation "iV" => (Memref.whole Cert.KernelIdeal.main_v9_scv : Memref Cert.KernelIdeal.sig Kind.scVector Space.hbm Cert.KernelIdeal.S4096 EltTy.i32)
local notation "fV" => (Memref.whole Cert.KernelIdeal.main_v7_scv : Memref Cert.KernelIdeal.sig Kind.scVector Space.hbm Cert.KernelIdeal.S4096 EltTy.f32)
local notation "oV" => (Memref.whole Cert.KernelIdeal.main_v10_scv : Memref Cert.KernelIdeal.sig Kind.scVector Space.hbm Cert.KernelIdeal.S1x64x64x64 EltTy.f32)
local notation "sI" => (Memref.whole Cert.KernelIdeal.cc1_scratch0 : Memref Cert.KernelIdeal.sig Kind.scVector Space.vmem Cert.KernelIdeal.S4096 EltTy.i32)
local notation "sF" => (Memref.whole Cert.KernelIdeal.cc1_scratch1 : Memref Cert.KernelIdeal.sig Kind.scVector Space.vmem Cert.KernelIdeal.S4096 EltTy.f32)
local notation "sS" => (Memref.whole Cert.KernelIdeal.cc1_scratch2 : Memref Cert.KernelIdeal.sig Kind.scVector Space.vmem Cert.KernelIdeal.S64x64 EltTy.f32)
local notation "sD" => (Memref.whole Cert.KernelIdeal.cc1_scratch3 : Memref Cert.KernelIdeal.sig Kind.scVector Space.vmem Cert.KernelIdeal.S64x64 EltTy.f32)

variable (d : Dev nD) (L : grid1.Coords)

abbrev cV (L : grid1.Coords) : Fin τ.nSC := (L 0).castLE hcore1
abbrev jV (L : grid1.Coords) : Fin τ.nSub := (L 1).castLE hsub1

theorem trips_eq : k1_t1_loop.trips = 256 := by decide

theorem off4_eq : ∀ t : Fin k1_t1_loop.trips, k1_off4 t = ![t.val / 4, 16 * (t.val % 4)] := by decide +kernel

/-- The words of trip `t` and the flags of trip `t`. -/
abbrev tripRect2 (t : Fin k1_t1_loop.trips) : Rect S4096 := Rect.unit (s := S4096) (k1_off2 t) S16.size (k1_off2_inb t)
abbrev tripRect3 (t : Fin k1_t1_loop.trips) : Rect S4096 := Rect.unit (s := S4096) (k1_off3 t) S16.size (k1_off3_inb t)
abbrev tripRect4 (t : Fin k1_t1_loop.trips) : Rect S64x64 := Rect.unit (s := S64x64) (k1_off4 t) S1x16.size (k1_off4_inb t)

/-- Lane `x` of trip `t` is position `16 t + x`. -/
theorem tripRect2_idx (t : Fin k1_t1_loop.trips) (x : S16.Idx) : (((tripRect2 t).toLoadRect.idx x) 0).val = 16 * t.val + (x 0).val := by
  rw [LoadRect.idx_apply]
  show (k1_off2 t) 0 + 1 * (x 0).val = _
  rw [k1_off2_eq]; simp
theorem tripRect3_idx (t : Fin k1_t1_loop.trips) (x : S16.Idx) : (((tripRect3 t).toLoadRect.idx x) 0).val = 16 * t.val + (x 0).val := by
  rw [LoadRect.idx_apply]
  show (k1_off3 t) 0 + 1 * (x 0).val = _
  rw [k1_off3_eq]; simp

variable (I : S4096.Idx → Elt F .i32) (Fl : S4096.Idx → Elt F .f32) (pl : S64x64.Idx → Elt F .f32)

/-- The loop's invariant after `k` trips: the index, flag and source scratches as fetched, the result scratch right at the
    first `16 k` positions. -/
def inv (k : ℕ) (_ : Unit) : sProp 𝕄 :=
  iprop(((sI).view.loc (V d (cV L) (jV L)) ↦{fullShare} I) ∗ ((sF).view.loc (V d (cV L) (jV L)) ↦{fullShare} Fl)
    ∗ ((sS).view.loc (V d (cV L) (jV L)) ↦{fullShare} pl)
    ∗ ∃ f : S64x64.Idx → Elt F .f32, ⌜∀ j : S64x64.Idx, 64 * (j 0).val + (j 1).val < 16 * k → f j = shifted pl I Fl j⌝
      ∗ ((sD).view.loc (V d (cV L) (jV L)) ↦{fullShare} f))

theorem chk (hI : ∀ p, (I p : BitVec 32).toNat < 4096) (v : IVec S16 32) (hv : ∀ x, ∃ p, v x = I p) : k1_chk1 (k1_pay4 (F := F) v) (k1_pay5 (F := F) v) := by
  intro a x
  obtain ⟨p, hp⟩ := hv x
  have h := hI p
  match a with
  | 0 =>
    show (IntOp.shrui .vector (v x) 6#32).toNat < 64
    rw [hp, IntOp.shrui, if_pos (by decide)]
    exact idx_word_lt _ h
  | 1 =>
    show (v x &&& 63#32).toNat < 64
    rw [BitVec.toNat_and]
    exact lt_of_le_of_lt Nat.and_le_right (by decide)

/-- What lane `y` of trip `t` computes is `shifted` at that position. -/
theorem lane_eq (hI : ∀ p, (I p : BitVec 32).toNat < 4096) (t : Fin k1_t1_loop.trips) (y : S16.Idx)
    (h : ∀ a x, ((![k1_pay4 (F := F) ((sI).view.readAt (Elt F) (tripRect2 t).toLoadRect I), k1_pay5 (F := F) ((sI).view.readAt (Elt F) (tripRect2 t).toLoadRect I)] :
      Fin 2 → IVec S16 32) a x).toNat < S64x64.size a)
    (r c : Fin 64) (hrc : 64 * r.val + c.val = 16 * t.val + (y 0).val) :
    k1_pay6 (loadIdx (((sS).access (.whole S64x64)).read (Elt F) pl) _ h) ((sF).view.readAt (Elt F) (tripRect3 t).toLoadRect Fl) y
      = shifted pl I Fl (ix2 r c) := by
  have e2 : (tripRect2 t).toLoadRect.idx y = flatPos r c := Shape.idx1_ext ((tripRect2_idx t y).trans hrc.symm)
  have e3 : (tripRect3 t).toLoadRect.idx y = flatPos r c := Shape.idx1_ext ((tripRect3_idx t y).trans hrc.symm)
  have hb := hI (flatPos r c)
  rw [show ((sS).access (.whole S64x64)).read (Elt F) pl = pl from Memref.read_access_whole (Elt F) cc1_scratch2 pl]
  unfold k1_pay6 shifted
  show FloatOps.mulf (φ := .f32) (pl (idxAt _ h y)) (Fl ((tripRect3 t).toLoadRect.idx y))
    = FloatOps.mulf (φ := .f32) (pl (ix2 (posRow (I (flatPos r c))) (posCol (I (flatPos r c))))) (Fl (flatPos r c))
  rw [e3]
  congr 2
  funext a
  match a with
  | ⟨0, _⟩ =>
    apply Fin.ext
    show (IntOp.shrui .vector (I ((tripRect2 t).toLoadRect.idx y)) 6#32).toNat = (I (flatPos r c)).toNat / 64 % 64
    rw [e2, IntOp.shrui, if_pos (by decide), BitVec.ushiftRight_eq', BitVec.toNat_ushiftRight, Nat.shiftRight_eq_div_pow]
    show (I (flatPos r c)).toNat / 64 = _
    omega
  | ⟨1, _⟩ =>
    apply Fin.ext
    show ((I ((tripRect2 t).toLoadRect.idx y) : BitVec 32) &&& 63#32).toNat = (I (flatPos r c)).toNat % 64
    rw [e2, BitVec.toNat_and]
    exact Nat.and_two_pow_sub_one_eq_mod _ 6

/-- The store of trip `t` extends the right positions by sixteen. -/
theorem store_ok (t : Fin k1_t1_loop.trips) (f : S64x64.Idx → Elt F .f32)
    (hf : ∀ j : S64x64.Idx, 64 * (j 0).val + (j 1).val < 16 * t.val → f j = shifted pl I Fl j) (w : S16.Idx → Elt F .f32)
    (hw : ∀ (y : S16.Idx) (r c : Fin 64), 64 * r.val + c.val = 16 * t.val + (y 0).val → w y = shifted pl I Fl (ix2 r c))
    (j : S64x64.Idx) (hj : 64 * (j 0).val + (j 1).val < 16 * (t.val + 1)) :
    ((sD).access (tripRect4 t)).write (Elt F) f (shapeCast S1x16 w shapeCasts_S16_S1x16) Finset.univ j = shifted pl I Fl j := by
  have ht : t.val < 256 := trips_eq ▸ t.isLt
  have h0 : (j 0).val < 64 := (j 0).isLt
  have h1 : (j 1).val < 64 := (j 1).isLt
  by_cases hlt : 64 * (j 0).val + (j 1).val < 16 * t.val
  · rw [View.write_of_not_mem, hf j hlt]
    intro hm
    obtain ⟨x, -, hx⟩ := Finset.mem_map.mp hm
    have a0 : t.val / 4 + 1 * (x 0).val = (j 0).val := by
      rw [← hx]; exact congrArg (· + 1 * (x 0).val) (congrFun (off4_eq t) 0).symm
    have a1 : 16 * (t.val % 4) + 1 * (x 1).val = (j 1).val := by
      rw [← hx]; exact congrArg (· + 1 * (x 1).val) (congrFun (off4_eq t) 1).symm
    omega
  · have ex : j = ((sD).access (tripRect4 t)).emb (ix2 (n0 := 1) (n1 := 16) 0 ⟨(j 1).val - 16 * (t.val % 4), by omega⟩) := by
      funext a
      match a with
      | ⟨0, _⟩ =>
        apply Fin.ext
        show (j 0).val = (k1_off4 t) 0 + 1 * 0
        rw [off4_eq]; show (j 0).val = t.val / 4 + 1 * 0; omega
      | ⟨1, _⟩ =>
        apply Fin.ext
        show (j 1).val = (k1_off4 t) 1 + 1 * ((j 1).val - 16 * (t.val % 4))
        rw [off4_eq]; show (j 1).val = 16 * (t.val % 4) + 1 * ((j 1).val - 16 * (t.val % 4)); omega
    conv_lhs => rw [ex]
    rw [View.write_emb_of_mem _ _ (Finset.mem_univ _)]
    show w (Shape.reshapeEquiv _ _) = _
    refine (hw _ (j 0) (j 1) ?_).trans (congrArg (shifted pl I Fl) (eq_ix2 j).symm)
    have hr := Shape.rowMajor_reshapeEquiv (s := S16) (s' := S1x16) shapeCasts_S16_S1x16 (ix2 (n0 := 1) (n1 := 16) 0 ⟨(j 1).val - 16 * (t.val % 4), by omega⟩)
    rw [Shape.rowMajor_val_one, Shape.rowMajor_val_two] at hr
    rw [hr]
    show _ = 16 * t.val + (0 * 16 + ((j 1).val - 16 * (t.val % 4)))
    omega

set_option maxHeartbeats 4000000 in
theorem trip (hI : ∀ p, (I p : BitVec 32).toNat < 4096) (t : Fin k1_t1_loop.trips) :
    inv (F := F) d L I Fl pl t.val () ⊢ wp frame (wpE (defs₀ (F := F)) 𝒱₀ (V d (cV L) (jV L)) none) Set.univ
      (k1_t1_body L xV (Memref.isWhole_whole _) iV (Memref.isWhole_whole _) fV (Memref.isWhole_whole _) oV (Memref.isWhole_whole _)
        sI (Memref.isWhole_whole _) sF (Memref.isWhole_whole _) sS (Memref.isWhole_whole _) sD (Memref.isWhole_whole _)
        cc1_scoped0 cc1_scoped1 cc1_scoped2 cc1_scoped3 cc1_scoped4 cc1_scoped5 t ())
      fun u => inv (F := F) d L I Fl pl (t.val + 1) u := by
  have hc : k1_chk1 (k1_pay4 (F := F) ((sI).view.readAt (Elt F) (tripRect2 t).toLoadRect I)) (k1_pay5 (F := F) ((sI).view.readAt (Elt F) (tripRect2 t).toLoadRect I)) :=
    chk I hI _ fun x => ⟨(tripRect2 t).toLoadRect.idx x, by simp only [View.readAt_apply, Memref.view_whole, View.read_whole]⟩
  unfold inv k1_t1_body
  iintro ⟨HI, HF, HS, %f, %hf, HD⟩
  sl_exec
  ihave HS' := (Entails.of_eq (show ((sS).view.loc (V d (cV L) (jV L)) ↦{fullShare} pl : sProp 𝕄)
      = ((sS).access (.whole S64x64)).loc (V d (cV L) (jV L)) ↦{fullShare} pl from rfl)) $$ HS
  iapply (SparseCore.wp_vectorLoadIdx 𝒱₀ (V d (cV L) (jV L)) none Set.univ (base := sS) (S := Finset.univ) (q := fullShare) (Finset.subset_univ _)) $$ HS'
  iintro HS'
  sl_exec
  sl_step
  isplitl [HI]; · iexact HI
  isplitl [HF]; · iexact HF
  isplitl [HS']; · iexact HS'
  iexists _; isplitr
  swap; · iexact HD
  ipureintro
  exact store_ok I Fl pl t f hf _ fun y r c h => lane_eq I Fl pl hI t y (k1_idx1_inb _ _ hc) r c h

end Cert.Proof.Shift

end
-- ==== Proof.Tile.lean ====
/-
  The SparseCore kernel on one vector subcore: the indices, the flags and two planes of the input fetched, each plane shifted
  by the loop of `trip`, each written out; and the obligation the launch asks of every subcore.
-/
module

public import proofs.«01_k».proof.Proof.Trip
public import Idealize.ShloMosaic.Lib.ViewIndex
public import Idealize.ShloMosaic.Lib.Writes

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S1x128x64x64 EltTy.f32)
local notation "iV" => (Memref.whole Cert.KernelIdeal.main_v9_scv : Memref Cert.KernelIdeal.sig Kind.scVector Space.hbm Cert.KernelIdeal.S4096 EltTy.i32)
local notation "fV" => (Memref.whole Cert.KernelIdeal.main_v7_scv : Memref Cert.KernelIdeal.sig Kind.scVector Space.hbm Cert.KernelIdeal.S4096 EltTy.f32)
local notation "oV" => (Memref.whole Cert.KernelIdeal.main_v10_scv : Memref Cert.KernelIdeal.sig Kind.scVector Space.hbm Cert.KernelIdeal.S1x64x64x64 EltTy.f32)
local notation "sI" => (Memref.whole Cert.KernelIdeal.cc1_scratch0 : Memref Cert.KernelIdeal.sig Kind.scVector Space.vmem Cert.KernelIdeal.S4096 EltTy.i32)
local notation "sF" => (Memref.whole Cert.KernelIdeal.cc1_scratch1 : Memref Cert.KernelIdeal.sig Kind.scVector Space.vmem Cert.KernelIdeal.S4096 EltTy.f32)
local notation "sS" => (Memref.whole Cert.KernelIdeal.cc1_scratch2 : Memref Cert.KernelIdeal.sig Kind.scVector Space.vmem Cert.KernelIdeal.S64x64 EltTy.f32)
local notation "sD" => (Memref.whole Cert.KernelIdeal.cc1_scratch3 : Memref Cert.KernelIdeal.sig Kind.scVector Space.vmem Cert.KernelIdeal.S64x64 EltTy.f32)

/-! ## The buffers in the device's memory -/

abbrev xLoc (d : Dev nD) : Loc nD τ sig := (SparseCore.T d).loc main_arg0
abbrev iLoc (d : Dev nD) : Loc nD τ sig := (SparseCore.T d).loc main_v9
abbrev fLoc (d : Dev nD) : Loc nD τ sig := (SparseCore.T d).loc main_v7
abbrev oLoc (d : Dev nD) : Loc nD τ sig := (SparseCore.T d).loc main_v10

/-- The result's plane `k`. -/
def slab (k : ℕ) : Finset S1x64x64x64.Idx := Finset.univ.filter fun y => (y 1).val = k

variable (d : Dev nD) (L : grid1.Coords)

/-- The first plane of the subcore; its second is 32 further. -/
abbrev kOf (L : grid1.Coords) : ℕ := 2 * (L 1).val + (L 0).val

theorem kOf_lt : kOf L < 32 := by
  have h0 : (L 0).val < 2 := (L 0).isLt
  have h1 : (L 1).val < 16 := (L 1).isLt
  show 2 * (L 1).val + (L 0).val < 32; omega

/-- Plane `r` of the subcore. -/
abbrev kFin (L : grid1.Coords) (r : Fin 2) : Fin 128 := ⟨kOf L + 32 * r.val, by have := kOf_lt L; omega⟩

/-- Plane `r` of the subcore, in the input and in the result, as the kernel slices them. -/
abbrev xRow (r : Fin 2) : Memref sig .scVector .hbm S64x64 .f32 :=
  ((xV).slice (Rect.unit (s := S1x128x64x64) (k1_off1 L (BitVec.ofNat 32 (32 * r.val))) S1x1x64x64.size (k1_off1_inb L r)) (fun _ => rfl)).squeeze S64x64 squeezes_S1x1x64x64_S64x64
abbrev oRow (r : Fin 2) : Memref sig .scVector .hbm S64x64 .f32 :=
  ((oV).slice (Rect.unit (s := S1x64x64x64) (k1_off5 L (BitVec.ofNat 32 (32 * r.val))) S1x1x64x64.size (k1_off5_inb L r)) (fun _ => rfl)).squeeze S64x64 squeezes_S1x1x64x64_S64x64

/-- The squeezed index of row `a`, column `b`. -/
theorem squeeze_idx (j : S64x64.Idx) : Shape.reshapeEquiv squeezes_S1x1x64x64_S64x64.numel_eq j = ix4 (n0 := 1) (n1 := 1) (n2 := 64) (n3 := 64) 0 0 (j 0) (j 1) := by
  apply Shape.reshapeEquiv_eq_of_rowMajor
  refine (Shape.rowMajor_val_four (d := ![1, 1, 64, 64]) _).trans (Eq.trans ?_ (Shape.rowMajor_val_two (d := ![64, 64]) j).symm)
  show ((0 * 1 + 0) * 64 + (j 0).val) * 64 + (j 1).val = (j 0).val * 64 + (j 1).val
  omega

theorem xRow_emb (r : Fin 2) (j : S64x64.Idx) :
    (xRow L r).view.emb j = ix4 (n0 := 1) (n1 := 128) (n2 := 64) (n3 := 64) 0 ⟨kOf L + 32 * r.val, by have := kOf_lt L; omega⟩ (j 0) (j 1) := by
  show (Rect.unit (s := S1x128x64x64) (k1_off1 L (BitVec.ofNat 32 (32 * r.val))) S1x1x64x64.size (k1_off1_inb L r)).emb (Shape.reshapeEquiv squeezes_S1x1x64x64_S64x64.numel_eq j) = _
  rw [squeeze_idx]
  funext a; apply Fin.ext
  show (k1_off1 L (BitVec.ofNat 32 (32 * r.val))) a + 1 * (ix4 (n0 := 1) (n1 := 1) (n2 := 64) (n3 := 64) 0 0 (j 0) (j 1) a).val = _
  refine (congrArg (fun x : ℕ => x + 1 * (ix4 (n0 := 1) (n1 := 1) (n2 := 64) (n3 := 64) 0 0 (j 0) (j 1) a).val) (congrFun (k1_off1_eq L r) a)).trans ?_
  match a with
  | ⟨0, _⟩ => rfl
  | ⟨1, _⟩ => rfl
  | ⟨2, _⟩ => show 0 + 1 * (j 0).val = (j 0).val; omega
  | ⟨3, _⟩ => show 0 + 1 * (j 1).val = (j 1).val; omega

theorem oRow_emb (r : Fin 2) (j : S64x64.Idx) :
    (oRow L r).view.emb j = ix4 (n0 := 1) (n1 := 64) (n2 := 64) (n3 := 64) 0 ⟨kOf L + 32 * r.val, by have := kOf_lt L; omega⟩ (j 0) (j 1) := by
  show (Rect.unit (s := S1x64x64x64) (k1_off5 L (BitVec.ofNat 32 (32 * r.val))) S1x1x64x64.size (k1_off5_inb L r)).emb (Shape.reshapeEquiv squeezes_S1x1x64x64_S64x64.numel_eq j) = _
  rw [squeeze_idx]
  funext a; apply Fin.ext
  show (k1_off5 L (BitVec.ofNat 32 (32 * r.val))) a + 1 * (ix4 (n0 := 1) (n1 := 1) (n2 := 64) (n3 := 64) 0 0 (j 0) (j 1) a).val = _
  refine (congrArg (fun x : ℕ => x + 1 * (ix4 (n0 := 1) (n1 := 1) (n2 := 64) (n3 := 64) 0 0 (j 0) (j 1) a).val) (congrFun (k1_off5_eq L r) a)).trans ?_
  match a with
  | ⟨0, _⟩ => rfl
  | ⟨1, _⟩ => rfl
  | ⟨2, _⟩ => show 0 + 1 * (j 0).val = (j 0).val; omega
  | ⟨3, _⟩ => show 0 + 1 * (j 1).val = (j 1).val; omega

theorem set_oRow (r : Fin 2) : (oRow L r).view.set = slab (kOf L + 32 * r.val) := by
  ext y
  rw [slab, Finset.mem_filter]
  constructor
  · intro h
    obtain ⟨j, -, rfl⟩ := Finset.mem_map.mp h
    exact ⟨Finset.mem_univ _, by rw [oRow_emb]⟩
  · rintro ⟨-, h⟩
    refine Finset.mem_map.mpr ⟨ix2 (y 2) (y 3), Finset.mem_univ _, ?_⟩
    rw [oRow_emb]
    funext a; apply Fin.ext
    match a with
    | ⟨0, _⟩ => have h0 : (y 0).val < 1 := (y 0).isLt; show 0 = (y 0).val; omega
    | ⟨1, _⟩ => exact h.symm
    | ⟨2, _⟩ => rfl
    | ⟨3, _⟩ => rfl

variable (X : S1x128x64x64.Idx → Elt F .f32) (I : S4096.Idx → Elt F .i32) (Fl : S4096.Idx → Elt F .f32) (O0 : S1x64x64x64.Idx → Elt F .f32)

/-- What the fetch of plane `r` lands. -/
theorem read_xRow (r : Fin 2) :
    (xRow L r).view.read (Elt F) X = plane X (kFin L r) := by
  funext j
  show X ((xRow L r).view.emb j) = _
  rw [xRow_emb]; rfl

/-- What the write-out of plane `r` leaves there. -/
theorem write_oRow [∀ e, Nonempty (Elt F e)] (r : Fin 2) (f : S1x64x64x64.Idx → Elt F .f32) (w : S64x64.Idx → Elt F .f32)
    (hw : ∀ j, w j = shifted (plane X (kFin L r)) I Fl j) :
    ∀ y ∈ (oRow L r).view.set, (oRow L r).view.writes (Elt F) f [⟨Rect.whole S64x64, w⟩] y = shiftAll X I Fl y := by
  intro y hy
  obtain ⟨j, -, rfl⟩ := Finset.mem_map.mp hy
  refine (congrFun (View.read_writes_whole (v := (oRow L r).view) (f := f) (x := w)) j).trans ?_
  rw [hw, oRow_emb]
  show _ = shifted _ I Fl (ix2 (j 0) (j 1))
  exact congrArg (shifted _ I Fl) (eq_ix2 j)

/-- Every element of a plane lies before the loop's end. -/
theorem loop_done (j : S64x64.Idx) : 64 * (j 0).val + (j 1).val < 16 * k1_t1_loop.trips := by
  have h0 : (j 0).val < 64 := (j 0).isLt
  have h1 : (j 1).val < 64 := (j 1).isLt
  rw [trips_eq]; omega

/-- The loop of the second plane is the loop of the first. -/
theorem body2_eq : @k1_t2_body F _ = @k1_t1_body F _ := rfl

/-- What a subcore is handed: a share of the input, the indices and the flags; its two planes of the result. -/
def goP (q : PosShare TreeShare) (O : S1x64x64x64.Idx → Elt F .f32) : sProp 𝕄 :=
  iprop((xLoc d ↦{q} X) ∗ (iLoc d ↦{q} I) ∗ (fLoc d ↦{q} Fl) ∗ (oLoc d ↦[slab (kOf L)]{fullShare} O) ∗ (oLoc d ↦[slab (kOf L + 32)]{fullShare} O))

abbrev semCell (s : DmaSem sig) : GSem nD τ sig := (V d (cV L) (jV L), .dma s)

theorem ownSems0_V :
    (ownSems0 (V d (cV L) (jV L)) : sProp 𝕄)
      = iprop(semVal (semCell d L cc1_scoped0.sem) 0 ∗ semVal (semCell d L cc1_scoped1.sem) 0 ∗ semVal (semCell d L cc1_scoped2.sem) 0
          ∗ semVal (semCell d L cc1_scoped3.sem) 0 ∗ semVal (semCell d L cc1_scoped4.sem) 0 ∗ semVal (semCell d L cc1_scoped5.sem) 0
          ∗ bigSep (((((((ownCells (V d (cV L) (jV L))).erase (semCell d L cc1_scoped0.sem)).erase (semCell d L cc1_scoped1.sem)).erase (semCell d L cc1_scoped2.sem)).erase
              (semCell d L cc1_scoped3.sem)).erase (semCell d L cc1_scoped4.sem)).erase (semCell d L cc1_scoped5.sem)) fun g => semVal g 0) := by
  have hm : ∀ s : DmaSem sig, (SemLoc.dma s : SemLoc sig).isScoped .scVector = true → semCell d L s ∈ ownCells (V d (cV L) (jV L)) :=
    fun s hs => (mem_ownCells (g := semCell d L s)).mpr ⟨rfl, hs⟩
  have hn : ∀ s s' : DmaSem sig, s ≠ s' → semCell d L s ≠ semCell d L s' := fun s s' h e => h (by injection e with _ e; injection e)
  unfold SparseCore.Cfg.ownSems0
  rw [SparseCore.bigSep_erase' (hm cc1_scoped0.sem (by decide)),
    SparseCore.bigSep_erase' (Finset.mem_erase.mpr ⟨hn _ _ (by decide), hm cc1_scoped1.sem (by decide)⟩),
    SparseCore.bigSep_erase' (Finset.mem_erase.mpr ⟨hn _ _ (by decide), Finset.mem_erase.mpr ⟨hn _ _ (by decide), hm cc1_scoped2.sem (by decide)⟩⟩),
    SparseCore.bigSep_erase' (Finset.mem_erase.mpr ⟨hn _ _ (by decide), Finset.mem_erase.mpr ⟨hn _ _ (by decide), Finset.mem_erase.mpr ⟨hn _ _ (by decide), hm cc1_scoped3.sem (by decide)⟩⟩⟩),
    SparseCore.bigSep_erase' (Finset.mem_erase.mpr ⟨hn _ _ (by decide), Finset.mem_erase.mpr ⟨hn _ _ (by decide), Finset.mem_erase.mpr ⟨hn _ _ (by decide),
      Finset.mem_erase.mpr ⟨hn _ _ (by decide), hm cc1_scoped4.sem (by decide)⟩⟩⟩⟩),
    SparseCore.bigSep_erase' (Finset.mem_erase.mpr ⟨hn _ _ (by decide), Finset.mem_erase.mpr ⟨hn _ _ (by decide), Finset.mem_erase.mpr ⟨hn _ _ (by decide),
      Finset.mem_erase.mpr ⟨hn _ _ (by decide), Finset.mem_erase.mpr ⟨hn _ _ (by decide), hm cc1_scoped5.sem (by decide)⟩⟩⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase ((Proc.scVector (cV L) (jV L)).devRef cc1_scratch3))
              fun b => iprop(∃ f, ((d, b) : Loc nD τ sig) ↦{fullShare} f)) := by
  have hn : ∀ b b' : Ref sig .scVector, b ≠ b' → (Proc.scVector (cV L) (jV L)).devRef b ≠ (Proc.scVector (cV L) (jV L)).devRef b' :=
    fun b b' h e => h (Proc.devRef_injective _ e)
  have m0 := SparseCore.Cfg.mem_ownRefs_of_owner (p := Proc.scVector (cV L) (jV L)) (b := (Proc.scVector (cV L) (jV L)).devRef cc1_scratch0) rfl
  have m1 := SparseCore.Cfg.mem_ownRefs_of_owner (p := Proc.scVector (cV L) (jV L)) (b := (Proc.scVector (cV L) (jV L)).devRef cc1_scratch1) rfl
  have m2 := SparseCore.Cfg.mem_ownRefs_of_owner (p := Proc.scVector (cV L) (jV L)) (b := (Proc.scVector (cV L) (jV L)).devRef cc1_scratch2) rfl
  have m3 := SparseCore.Cfg.mem_ownRefs_of_owner (p := Proc.scVector (cV L) (jV L)) (b := (Proc.scVector (cV L) (jV L)).devRef cc1_scratch3) rfl
  unfold SparseCore.Cfg.ownBufs
  refine (SparseCore.bigSep_erase' m0).trans ?_
  rw [SparseCore.bigSep_erase' (Finset.mem_erase.mpr ⟨hn _ _ (by decide), m1⟩),
    SparseCore.bigSep_erase' (Finset.mem_erase.mpr ⟨hn _ _ (by decide), Finset.mem_erase.mpr ⟨hn _ _ (by decide), m2⟩⟩),
    SparseCore.bigSep_erase' (Finset.mem_erase.mpr ⟨hn _ _ (by decide), Finset.mem_erase.mpr ⟨hn _ _ (by decide), Finset.mem_erase.mpr ⟨hn _ _ (by decide), m3⟩⟩⟩)]

set_option maxHeartbeats 4000000 in
/-- The kernel on vector subcore `(L 0, L 1)` of device `d`. -/
theorem tile_body [∀ e, Nonempty (Elt F e)] (hI : ∀ p, (I p : BitVec 32).toNat < 4096) (q : PosShare TreeShare) (O : CellTallies nD τ sig (HIx 1)) (W : Waits sig (HIx 1)) (hO : ∀ g, O g none = 0) :
    iprop(levAts (K (F := F)).L (K (F := F)).lev ∗ emp ∗ goP d L X I Fl q O0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_shift_k L xV (Memref.isWhole_whole _) iV (Memref.isWhole_whole _) fV (Memref.isWhole_whole _) oV (Memref.isWhole_whole _)
            sI (Memref.isWhole_whole _) sF (Memref.isWhole_whole _) sS (Memref.isWhole_whole _) sD (Memref.isWhole_whole _)
            cc1_scoped0 cc1_scoped1 cc1_scoped2 cc1_scoped3 cc1_scoped4 cc1_scoped5)
          fun _ => iprop(goP d L X I Fl q (shiftAll X I Fl) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_shift_k_eq_skeleton]; unfold cc1_shift_k_skel
  simp only [k1_part1_eq_skeleton]; unfold k1_part1_skel
  rw [(K (F := F)).scopedBufs_V scFacts d (cV L) (jV L), SparseCore.Cfg.scopedSems0_V (Val := Elt F) d (cV L) (jV L), ownSems0_V, ownBufs_V]
  unfold goP
  iintro ⟨#Hlv, -, ⟨Hx, Hi, Hf, Ho0, Ho1⟩, ⟨⟨%g0, Hs0⟩, ⟨%g1, Hs1⟩, ⟨%g2, Hs2⟩, ⟨%g3, Hs3⟩, Hbufs⟩, ⟨Hc0, Hc1, Hc2, Hc3, Hc4, Hc5, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xLoc d ↦{q} X : sProp 𝕄) = (xV).view.loc (V d (cV L) (jV L)) ↦{q} X from rfl)) $$ Hx
  ihave Hi' := (Entails.of_eq (show (iLoc d ↦{q} I : sProp 𝕄) = (iV).view.loc (V d (cV L) (jV L)) ↦{q} I from rfl)) $$ Hi
  ihave Hf' := (Entails.of_eq (show (fLoc d ↦{q} Fl : sProp 𝕄) = (fV).view.loc (V d (cV L) (jV L)) ↦{q} Fl from rfl)) $$ Hf
  ihave Ho0' := (Entails.of_eq (show (oLoc d ↦[slab (kOf L)]{fullShare} O0 : sProp 𝕄)
    = (oRow L 0).view.loc (V d (cV L) (jV L)) ↦[(oRow L 0).view.set]{fullShare} O0 by rw [set_oRow]; rfl)) $$ Ho0
  ihave Ho1' := (Entails.of_eq (show (oLoc d ↦[slab (kOf L + 32)]{fullShare} O0 : sProp 𝕄)
    = (oRow L 1).view.loc (V d (cV L) (jV L)) ↦[(oRow L 1).view.set]{fullShare} O0 by rw [set_oRow]; rfl)) $$ Ho1
  ihave Hs0' := (Entails.of_eq (show ((V d (cV L) (jV L)).loc cc1_scratch0 ↦{fullShare} g0 : sProp 𝕄) = (sI).view.loc (V d (cV L) (jV L)) ↦{fullShare} g0 from rfl)) $$ Hs0
  ihave Hs1' := (Entails.of_eq (show ((V d (cV L) (jV L)).loc cc1_scratch1 ↦{fullShare} g1 : sProp 𝕄) = (sF).view.loc (V d (cV L) (jV L)) ↦{fullShare} g1 from rfl)) $$ Hs1
  ihave Hs2' := (Entails.of_eq (show ((V d (cV L) (jV L)).loc cc1_scratch2 ↦{fullShare} g2 : sProp 𝕄) = (sS).view.loc (V d (cV L) (jV L)) ↦{fullShare} g2 from rfl)) $$ Hs2
  ihave Hs3' := (Entails.of_eq (show ((V d (cV L) (jV L)).loc cc1_scratch3 ↦{fullShare} g3 : sProp 𝕄) = (sD).view.loc (V d (cV L) (jV L)) ↦{fullShare} g3 from rfl)) $$ Hs3
  sl_exec
  ihave Hs0 := (Entails.of_eq (congrArg (fun f => ((sI).view.loc (V d (cV L) (jV L)) ↦{fullShare} f : sProp 𝕄))
    (show (sI).view.write (Elt F) g0 (tile_body.sl.dma0 I) Finset.univ = I from View.write_whole_univ ..))) $$ Hs0'
  ihave Hs1 := (Entails.of_eq (congrArg (fun f => ((sF).view.loc (V d (cV L) (jV L)) ↦{fullShare} f : sProp 𝕄))
    (show (sF).view.write (Elt F) g1 (tile_body.sl.dma0_1 Fl) Finset.univ = Fl from View.write_whole_univ ..))) $$ Hs1'
  ihave Hs2 := (Entails.of_eq (congrArg (fun f => ((sS).view.loc (V d (cV L) (jV L)) ↦{fullShare} f : sProp 𝕄))
    (show (sS).view.write (Elt F) g2 (tile_body.sl.dma0_2 L X) Finset.univ = _ from (View.write_whole_univ ..).trans (read_xRow L X 0)))) $$ Hs2'
  rw [bind_assoc]
  sl_for (inv d L I Fl (plane X (kFin L 0))) $$ [Hs0 Hs1 Hs2 Hs3']
  case region => intro k _; exact trip d L I Fl _ hI k
  · unfold inv
    isplitl [Hs0]; · iexact Hs0
    isplitl [Hs1]; · iexact Hs1
    isplitl [Hs2]; · iexact Hs2
    iexists g3
    isplitr
    · ipureintro; intro j hj; omega
    · iexact Hs3'
  iintro %_ HI
  unfold inv
  icases HI with ⟨Hs0, Hs1, Hs2, %f1, %hf1, Hs3⟩
  sl_exec
  ihave Hs2' := (Entails.of_eq (congrArg (fun f => ((sS).view.loc (V d (cV L) (jV L)) ↦{fullShare} f : sProp 𝕄))
    (show (sS).view.write (Elt F) (plane X (kFin L 0)) (tile_body.sl.dma0_4 L X) Finset.univ = _ from
      (View.write_whole_univ ..).trans (read_xRow L X 1)))) $$ Hs2
  sl_for (inv d L I Fl (plane X (kFin L 1))) $$ [Hs0 Hs1 Hs2' Hs3]
  case region => intro k _; exact trip d L I Fl _ hI k
  · unfold inv
    isplitl [Hs0]; · iexact Hs0
    isplitl [Hs1]; · iexact Hs1
    isplitl [Hs2']; · iexact Hs2'
    iexists f1
    isplitr
    · ipureintro; intro j hj; omega
    · iexact Hs3
  iintro %_ HI
  unfold inv
  icases HI with ⟨Hs0, Hs1, Hs2, %f2, %hf2, Hs3⟩
  sl_exec
  ihave Ho0 := (Entails.of_eq (pointsTo_congr (q := fullShare) (write_oRow L X I Fl 0 _ (tile_body.sl.dma0_3 f1) fun j => hf1 j (loop_done j)))) $$ Ho0'
  ihave Ho1 := (Entails.of_eq (pointsTo_congr (q := fullShare) (write_oRow L X I Fl 1 _ (tile_body.sl.dma0_5 f2) fun j => hf2 j (loop_done j)))) $$ Ho1'
  sl_step
  isplitl [Hx' Hi' Hf' Ho0 Ho1]
  · isplitl [Hx']; · iexact Hx'
    isplitl [Hi']; · iexact Hi'
    isplitl [Hf']; · iexact Hf'
    isplitl [Ho0]
    · iapply (Entails.of_eq (show ((oRow L 0).view.loc (V d (cV L) (jV L)) ↦[(oRow L 0).view.set]{fullShare} shiftAll X I Fl : sProp 𝕄)
        = oLoc d ↦[slab (kOf L)]{fullShare} shiftAll X I Fl by rw [set_oRow]; rfl)); iexact Ho0
    · iapply (Entails.of_eq (show ((oRow L 1).view.loc (V d (cV L) (jV L)) ↦[(oRow L 1).view.set]{fullShare} shiftAll X I Fl : sProp 𝕄)
        = oLoc d ↦[slab (kOf L + 32)]{fullShare} shiftAll X I Fl by rw [set_oRow]; rfl)); iexact Ho1
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [Hc0 Hc1 Hc2 Hc3 Hc4 Hc5 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_shift_k (coordsV c s) xV (Memref.isWhole_whole _) iV (Memref.isWhole_whole _)
            fV (Memref.isWhole_whole _) oV (Memref.isWhole_whole _) sI (Memref.isWhole_whole _) sF (Memref.isWhole_whole _)
            sS (Memref.isWhole_whole _) sD (Memref.isWhole_whole _)
            cc1_scoped0 cc1_scoped1 cc1_scoped2 cc1_scoped3 cc1_scoped4 cc1_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Shift

end
-- ==== Proof.Shares.lean ====
/-
  What the SparseCore call's handshakes carry: every subcore is handed a share of the input, of the indices and of the
  flags, and its two planes of the result; it brings them back, the planes shifted. The shares and the planes of all
  subcores are the whole buffers.
-/
module

public import proofs.«01_k».proof.Proof.Tile
public import Idealize.ShloMosaic.Lib.ViewIndex
public import Idealize.ShloMosaic.Lib.Writes

@[expose] public section

noncomputable section

namespace Cert.Proof.Shift

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_arg0_scv : Memref Cert.KernelIdeal.sig Kind.scVector Space.hbm Cert.KernelIdeal.S1x128x64x64 EltTy.f32)
local notation "iV" => (Memref.whole Cert.KernelIdeal.main_v9_scv : Memref Cert.KernelIdeal.sig Kind.scVector Space.hbm Cert.KernelIdeal.S4096 EltTy.i32)
local notation "fV" => (Memref.whole Cert.KernelIdeal.main_v7_scv : Memref Cert.KernelIdeal.sig Kind.scVector Space.hbm Cert.KernelIdeal.S4096 EltTy.f32)
local notation "oV" => (Memref.whole Cert.KernelIdeal.main_v10_scv : Memref Cert.KernelIdeal.sig Kind.scVector Space.hbm Cert.KernelIdeal.S1x64x64x64 EltTy.f32)
local notation "sI" => (Memref.whole Cert.KernelIdeal.cc1_scratch0 : Memref Cert.KernelIdeal.sig Kind.scVector Space.vmem Cert.KernelIdeal.S4096 EltTy.i32)
local notation "sF" => (Memref.whole Cert.KernelIdeal.cc1_scratch1 : Memref Cert.KernelIdeal.sig Kind.scVector Space.vmem Cert.KernelIdeal.S4096 EltTy.f32)
local notation "sS" => (Memref.whole Cert.KernelIdeal.cc1_scratch2 : Memref Cert.KernelIdeal.sig Kind.scVector Space.vmem Cert.KernelIdeal.S64x64 EltTy.f32)
local notation "sD" => (Memref.whole Cert.KernelIdeal.cc1_scratch3 : Memref Cert.KernelIdeal.sig Kind.scVector Space.vmem Cert.KernelIdeal.S64x64 EltTy.f32)

theorem pos2 : (Finset.univ : Finset (Fin 2)).Nonempty := ⟨0, Finset.mem_univ _⟩
theorem pos16 : (Finset.univ : Finset (Fin 16)).Nonempty := ⟨0, Finset.mem_univ _⟩

/-- The share of what every subcore reads that goes to subcore `i` of SparseCore `c`. -/
def shareOf (c : Fin 2) (i : Fin 16) : PosShare TreeShare :=
  Transfers.dealOf (Transfers.dealOf fullShare Finset.univ c) Finset.univ i

theorem pts_shares {ℓ : Loc nD τ sig} (f : Buf (Elt F) ℓ) :
    (ℓ ↦{fullShare} f : sProp 𝕄) = bigSep Finset.univ fun c : Fin 2 => bigSep Finset.univ fun i : Fin 16 => ℓ ↦{shareOf c i} f := by
  rw [Transfers.pointsTo_deal (Finset.univ : Finset (Fin 2)) pos2 fullShare]
  exact bigSep_congr fun c _ => Transfers.pointsTo_deal (Finset.univ : Finset (Fin 16)) pos16 _

/-- The planes of SparseCore `c`, and those of its subcore `i`. -/
def coreSet (c : Fin 2) : Finset S1x64x64x64.Idx := Finset.univ.filter fun y => (y 1).val % 2 = c.val
def tileSet (c : Fin 2) (i : Fin 16) : Finset S1x64x64x64.Idx := Finset.univ.filter fun y => (y 1).val % 32 = 2 * i.val + c.val

theorem cores_disjoint : ∀ c ∈ (Finset.univ : Finset (Fin 2)), ∀ c' ∈ (Finset.univ : Finset (Fin 2)), c ≠ c' → Disjoint (coreSet c) (coreSet c') := by
  intro c _ c' _ h
  refine Finset.disjoint_left.mpr fun y hy hy' => h (Fin.ext ?_)
  rw [coreSet, Finset.mem_filter] at hy hy'
  exact hy.2.symm.trans hy'.2

theorem cores_cover : (Finset.univ : Finset (Fin 2)).biUnion coreSet = Finset.univ := by
  ext y
  simp only [Finset.mem_biUnion, coreSet, Finset.mem_filter, Finset.mem_univ, true_and, iff_true]
  exact ⟨⟨(y 1).val % 2, Nat.mod_lt _ (by decide)⟩, rfl⟩

theorem tiles_disjoint (c : Fin 2) : ∀ i ∈ (Finset.univ : Finset (Fin 16)), ∀ i' ∈ (Finset.univ : Finset (Fin 16)), i ≠ i' → Disjoint (tileSet c i) (tileSet c i') := by
  intro i _ i' _ h
  refine Finset.disjoint_left.mpr fun y hy hy' => h (Fin.ext ?_)
  rw [tileSet, Finset.mem_filter] at hy hy'
  have := hy.2.symm.trans hy'.2
  omega

theorem tiles_cover (c : Fin 2) : (Finset.univ : Finset (Fin 16)).biUnion (tileSet c) = coreSet c := by
  ext y
  simp only [Finset.mem_biUnion, coreSet, tileSet, Finset.mem_filter, Finset.mem_univ, true_and]
  constructor
  · rintro ⟨i, hi⟩; omega
  · intro h; exact ⟨⟨(y 1).val % 32 / 2, by omega⟩, by show _ = 2 * ((y 1).val % 32 / 2) + c.val; omega⟩

theorem tileSet_eq (c : Fin 2) (i : Fin 16) : tileSet c i = slab (2 * i.val + c.val) ∪ slab (2 * i.val + c.val + 32) := by
  ext y
  have hy : (y 1).val < 64 := (y 1).isLt
  simp only [slab, tileSet, Finset.mem_union, Finset.mem_filter, Finset.mem_univ, true_and]
  omega

theorem slabs_disjoint (k : ℕ) : Disjoint (slab k) (slab (k + 32)) := by
  refine Finset.disjoint_left.mpr fun y hy hy' => ?_
  rw [slab, Finset.mem_filter] at hy hy'
  have := hy.2.symm.trans hy'.2
  omega

theorem out_slabs (d : Dev nD) (f : Buf (Elt F) (oLoc d)) :
    (oLoc d ↦{fullShare} f : sProp 𝕄) = bigSep Finset.univ fun c : Fin 2 => bigSep Finset.univ fun i : Fin 16 =>
      iprop((oLoc d ↦[slab (2 * i.val + c.val)]{fullShare} f) ∗ (oLoc d ↦[slab (2 * i.val + c.val + 32)]{fullShare} f)) := by
  have h : (oLoc d ↦[(Finset.univ : Finset (Fin 2)).biUnion coreSet]{fullShare} f : sProp 𝕄) = _ := pointsTo_biUnion Finset.univ (ℓ := oLoc d) coreSet cores_disjoint
  rw [cores_cover] at h
  refine h.trans (bigSep_congr fun c _ => ?_)
  have h' : (oLoc d ↦[(Finset.univ : Finset (Fin 16)).biUnion (tileSet c)]{fullShare} f : sProp 𝕄) = _ := pointsTo_biUnion Finset.univ (ℓ := oLoc d) (tileSet c) (tiles_disjoint c)
  rw [tiles_cover] at h'
  refine h'.trans (bigSep_congr fun i _ => ?_)
  rw [tileSet_eq]
  exact BI.Entails.antisymm (pointsTo_union (slabs_disjoint _)).1 (pointsTo_union (slabs_disjoint _)).2

/-! ## The payloads -/

theorem nCore_zero : (K (F := F)).nCore 0 = 2 := rfl
theorem nSub_zero : (K (F := F)).nSub 0 = 16 := rfl

variable (X : Dev nD → S1x128x64x64.Idx → Elt F .f32) (I : Dev nD → S4096.Idx → Elt F .i32) (Fl : Dev nD → S4096.Idx → Elt F .f32)
  (O0 : Dev nD → S1x64x64x64.Idx → Elt F .f32)

/-- What subcore `i` of SparseCore `c` holds, the result's planes at `O`. -/
def tileP (O : Dev nD → S1x64x64x64.Idx → Elt F .f32) (d : Dev nD) (c : Fin 2) (i : Fin 16) : sProp 𝕄 :=
  goP d (coordsV c i) (X d) (I d) (Fl d) (shareOf c i) (O d)

instance tileP_storable (O : Dev nD → S1x64x64x64.Idx → Elt F .f32) (d : Dev nD) (c : Fin 2) (i : Fin 16) :
    BI.Storable (upEmb : UEmb _ 𝕄) (tileP X I Fl O d c i) := by
  unfold tileP goP; infer_instance

/-- What the whole call takes and gives back, in one piece. -/
theorem tiles_eq (O : Dev nD → S1x64x64x64.Idx → Elt F .f32) (d : Dev nD) :
    (bigSep Finset.univ fun c : Fin 2 => bigSep Finset.univ fun i : Fin 16 => tileP X I Fl O d c i)
      = (iprop((xLoc d ↦{fullShare} X d) ∗ (iLoc d ↦{fullShare} I d) ∗ (fLoc d ↦{fullShare} Fl d) ∗ (oLoc d ↦{fullShare} O d)) : sProp 𝕄) := by
  rw [pts_shares (ℓ := xLoc d), pts_shares (ℓ := iLoc d), pts_shares (ℓ := fLoc d), out_slabs, ← bigSep_sep', ← bigSep_sep', ← bigSep_sep']
  refine bigSep_congr fun c _ => ?_
  rw [← bigSep_sep', ← bigSep_sep', ← bigSep_sep']
  rfl

/-- The payloads of the one SparseCore call. -/
def P : (K (F := F)).Pay (nD := nD) (Val := Elt F) (Name := ℕ) (U := UU) where
  st := fun q d c => match q with | 0 => bigSep Finset.univ fun i : Fin 16 => tileP X I Fl O0 d c i
  dn := fun q d c => match q with | 0 => bigSep Finset.univ fun i : Fin 16 => tileP X I Fl (fun d => shiftAll (X d) (I d) (Fl d)) d c i
  go := fun q d c i => match q with | 0 => tileP X I Fl O0 d c i
  td := fun q d c i => match q with | 0 => tileP X I Fl (fun d => shiftAll (X d) (I d) (Fl d)) d c i
  x := fun _ _ => iprop(emp)

instance P_storable : (P X I Fl O0).IsStorable where
  st q d c := match q with
    | 0 => (inferInstance : BI.Storable (upEmb : UEmb _ 𝕄) (bigSep Finset.univ fun i : Fin 16 => tileP X I Fl O0 d c i))
  dn q d c := match q with
    | 0 => (inferInstance : BI.Storable (upEmb : UEmb _ 𝕄) (bigSep Finset.univ fun i : Fin 16 => tileP X I Fl (fun d => shiftAll (X d) (I d) (Fl d)) d c i))
  go q d c i := match q with
    | 0 => tileP_storable X I Fl O0 d c i
  td q d c i := match q with
    | 0 => tileP_storable X I Fl (fun d => shiftAll (X d) (I d) (Fl d)) d c i

set_option maxRecDepth 16384 in
theorem tileObl [∀ e, Nonempty (Elt F e)] (hI : ∀ d p, (I d p : BitVec 32).toNat < 4096) : (K (F := F)).TileObl (D (F := F)) 𝒱 (P X I Fl O0) v₀ 0 := by
  intro d c i O W hO _ _
  simp only [show (P X I Fl O0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X d) (I d) (Fl d) (O0 d) (hI d) (shareOf c i) O W hO).trans (wp_mono frame _ _ fun _ => obl_post)

theorem vecSplit : (K (F := F)).VecSplit' (P X I Fl O0) 0 := by
  intro d c
  show (bigSep Finset.univ fun i : Fin 16 => tileP X I Fl O0 d c i) ⊢ |={Set.univ}=> iprop((bigSep Finset.univ fun i : Fin 16 => tileP X I Fl O0 d c i)
    ∗ ((bigSep Finset.univ fun i : Fin 16 => tileP X I Fl (fun d => shiftAll (X d) (I d) (Fl d)) d c i)
        -∗ bigSep Finset.univ fun i : Fin 16 => tileP X I Fl (fun d => shiftAll (X d) (I d) (Fl d)) d c i))
  iintro H; imodintro
  isplitl [H]; · iexact H
  iintro H; iexact H

theorem st0_eq (d : Dev nD) : (bigSep Finset.univ fun c : Fin ((K (F := F)).nCore 0) => (P X I Fl O0).st 0 d c)
    = iprop((xLoc d ↦{fullShare} X d) ∗ (iLoc d ↦{fullShare} I d) ∗ (fLoc d ↦{fullShare} Fl d) ∗ (oLoc d ↦{fullShare} O0 d)) :=
  tiles_eq X I Fl O0 d
theorem dn0_eq (d : Dev nD) : (bigSep Finset.univ fun c : Fin ((K (F := F)).nCore 0) => (P X I Fl O0).dn 0 d c)
    = iprop((xLoc d ↦{fullShare} X d) ∗ (iLoc d ↦{fullShare} I d) ∗ (fLoc d ↦{fullShare} Fl d) ∗ (oLoc d ↦{fullShare} shiftAll (X d) (I d) (Fl d))) :=
  tiles_eq X I Fl (fun d => shiftAll (X d) (I d) (Fl d)) d

end Cert.Proof.Shift

end
-- ==== Proof.Main.lean ====
/-
  @main of the channel shift kernel on its TensorCore: the host operations before the argmax call, the call, the reshape
  of the indices, the SparseCore call, and the operations that lay the shifted planes behind the input. The run is
  proved once, over any float values.
-/
module

public import proofs.«01_k».proof.Proof.Region
public import proofs.«01_k».proof.Proof.Shares
public import Idealize.ShloMosaic.Lib.StableHlo.Run
public import Idealize.ShloMosaic.Lib.Pipeline.FrameTail

@[expose] public section

noncomputable section

namespace Cert.Proof.Shift

open Cert.KernelIdeal Cert.KernelIdeal.Gen

open Idealize.ShloMosaic Idealize.ShloMosaic.ValueIdx Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations -/

/-- Before the argmax call: the later half of the channels as a matrix of keys, the mask as flags. -/
def opsA : List (HloOp τ sig (Elt F)) :=
  [StableHlo.reshape main_arg0 main_v0 (rfl : (.f32 : EltTy) = .f32) shapeCasts_S1x128x64x64_S128x4096,
   StableHlo.unary main_v0 main_v1 ((extractStridedSlice S64x4096 ![64, 0] · slices_S128x4096_S64x4096_64_0) : (⟨S128x4096, .f32⟩ : BufTy).Contents (Elt F) → (⟨S64x4096, .f32⟩ : BufTy).Contents (Elt F)),
   StableHlo.reshape main_arg1 main_v2 (rfl : (.i32 : EltTy) = .i32) shapeCasts_S64x64_S4096,
   StableHlo.nullary main_c (constantI S_ 32 1#32),
   StableHlo.unary main_c main_v3 (broadcastInDim S4096 ![] bcast_S_S4096 : (⟨S_, .i32⟩ : BufTy).Contents (Elt F) → (⟨S4096, .i32⟩ : BufTy).Contents (Elt F)),
   StableHlo.binary main_v2 main_v3 main_v4 (cmpi .sge : (⟨S4096, .i32⟩ : BufTy).Contents (Elt F) → (⟨S4096, .i32⟩ : BufTy).Contents (Elt F) → (⟨S4096, .i1⟩ : BufTy).Contents (Elt F)),
   StableHlo.reshape main_v4 main_v5 (rfl : (.i1 : EltTy) = .i1) shapeCasts_S4096_S4096x1,
   StableHlo.unary main_v5 main_v6 ((extui 32 · natLt_1_32) : (⟨S4096x1, .i1⟩ : BufTy).Contents (Elt F) → (⟨S4096x1, .i32⟩ : BufTy).Contents (Elt F)),
   StableHlo.unary main_v4 main_v7 (uitofp .f32 : (⟨S4096, .i1⟩ : BufTy).Contents (Elt F) → (⟨S4096, .f32⟩ : BufTy).Contents (Elt F))]

/-- Between the two calls: the indices as one row. -/
def opsB : List (HloOp τ sig (Elt F)) :=
  [StableHlo.reshape main_v8 main_v9 (rfl : (.i32 : EltTy) = .i32) shapeCasts_S2x1x2048_S4096]

/-- After the SparseCore call: the input padded by 64 channels, the shifted planes put there. -/
def opsC : List (HloOp τ sig (Elt F)) :=
  [StableHlo.nullary main_c_0 (constantI S_ 32 0#32),
   StableHlo.TRef.unary (.of main_c_0 : StableHlo.TRef sig ⟨S_, .i32⟩) main_call0.v0 (sitofp .f32),
   StableHlo.TRef.binary (.of main_arg0 : StableHlo.TRef sig ⟨S1x128x64x64, .f32⟩) main_call0.v0 main_call0.v1 (fun x v => pad S1x192x64x64 ![0, 0, 0, 0] ![0, 64, 0, 0] ![0, 0, 0, 0] x v pads_S1x128x64x64_S1x192x64x64_000_0640_000_000 h_S_),
   StableHlo.nullary main_c_1 (constantI S_ 32 0#32),
   StableHlo.nullary main_c_2 (constantI S_ 32 128#32),
   StableHlo.nullary main_c_3 (constantI S_ 32 0#32),
   StableHlo.nullary main_c_4 (constantI S_ 32 0#32),
   StableHlo.binaryIndexed main_v11 main_v10 ![main_c_1, main_c_2, main_c_3, main_c_4] ⟨S_, .i32⟩ main_v12 ((fun x u i => Host.dynamicUpdateSlice x u (fun k => (i k (Shape.Idx.first h_S_)).toInt) updateFits_S1x192x64x64_S1x64x64x64) : (⟨S1x192x64x64, .f32⟩ : BufTy).Contents (Elt F) → (⟨S1x64x64x64, .f32⟩ : BufTy).Contents (Elt F) → (Fin 4 → (⟨S_, .i32⟩ : BufTy).Contents (Elt F)) → (⟨S1x192x64x64, .f32⟩ : BufTy).Contents (Elt F))]

theorem main_lines (d : Dev nD) : main (F := F) d = (StableHlo.seq opsA >>= fun _ => Prog.lift (.customCall (SparseCore.inner (Pipeline.entry 0)) ()) >>= fun _ =>
    StableHlo.seq opsB >>= fun _ => (K (F := F)).run d 0 >>= fun _ => StableHlo.seq opsC >>= fun _ => pure ⟨⟩) := rfl

/-! ## What the buffers hold along the way -/

variable (m : (ℓ : Loc nD τ sig) → Buf (Elt F) ℓ) (ρ : Dev nD → PrngReg)

def V0 (d : Dev nD) : Valuation τ sig (Elt F) := fun b => m (d, b)
def V1 (d : Dev nD) : Valuation τ sig (Elt F) := StableHlo.after opsA (V0 m d)
/-- The keys and the flags the argmax call reads, and the buffer it writes as it was. -/
def kx (d : Dev nD) : Vec F S64x4096 .f32 := V1 m d (Proc.devRef .tc main_v1)
def fl (d : Dev nD) : Vec F S4096x1 .i32 := V1 m d (Proc.devRef .tc main_v6)
def b0 (d : Dev nD) : Vec F S2x1x2048 .i32 := V1 m d (Proc.devRef .tc main_v8)
def V2 (d : Dev nD) : Valuation τ sig (Elt F) := Function.update (V1 m d) (Proc.devRef .tc main_v8) (idxAll (kx m d) (fl m d))
def V3 (d : Dev nD) : Valuation τ sig (Elt F) := StableHlo.after opsB (V2 m d)
/-- What the SparseCore call reads: the input, the indices, the flags; and the buffer it writes as it was. -/
def aX (d : Dev nD) : S1x128x64x64.Idx → Elt F .f32 := V3 m d (Proc.devRef .tc main_arg0)
def aI (d : Dev nD) : S4096.Idx → Elt F .i32 := V3 m d (Proc.devRef .tc main_v9)
def aF (d : Dev nD) : S4096.Idx → Elt F .f32 := V3 m d (Proc.devRef .tc main_v7)
def aO (d : Dev nD) : S1x64x64x64.Idx → Elt F .f32 := V3 m d (Proc.devRef .tc main_v10)
def V4 (d : Dev nD) : Valuation τ sig (Elt F) := Function.update (V3 m d) (Proc.devRef .tc main_v10) (shiftAll (aX m d) (aI m d) (aF m d))
def V5 (d : Dev nD) : Valuation τ sig (Elt F) := StableHlo.after opsC (V4 m d)

/-- The buffers of @main, whole, at a valuation. -/
abbrev held (d : Dev nD) (W : Valuation τ sig (Elt F)) : sProp 𝕄 := StableHlo.held (T d) (Pipeline.ucRefs τ sig) W

/-- The three buffers of the argmax call, and the four of the SparseCore call. -/
def refsTc : Finset (DevRef τ sig) := {Proc.devRef .tc main_v1, Proc.devRef .tc main_v6, Proc.devRef .tc main_v8}
def refsSc : Finset (DevRef τ sig) := {Proc.devRef .tc main_arg0, Proc.devRef .tc main_v9, Proc.devRef .tc main_v7, Proc.devRef .tc main_v10}

theorem refsTc_sub : refsTc ⊆ Pipeline.ucRefs τ sig := by
  unfold refsTc
  simp only [Finset.insert_subset_iff, Finset.singleton_subset_iff]
  exact ⟨Pipeline.devRef_mem_ucRefs rfl, Pipeline.devRef_mem_ucRefs rfl, Pipeline.devRef_mem_ucRefs rfl⟩
theorem refsSc_sub : refsSc ⊆ Pipeline.ucRefs τ sig := by
  unfold refsSc
  simp only [Finset.insert_subset_iff, Finset.singleton_subset_iff]
  exact ⟨Pipeline.devRef_mem_ucRefs rfl, Pipeline.devRef_mem_ucRefs rfl, Pipeline.devRef_mem_ucRefs rfl, Pipeline.devRef_mem_ucRefs rfl⟩

theorem held_tc (d : Dev nD) (W : Valuation τ sig (Elt F)) : (StableHlo.held (T d) refsTc W : sProp 𝕄)
    = iprop((keyLoc d ↦{fullShare} W (Proc.devRef .tc main_v1)) ∗ (flagLoc d ↦{fullShare} W (Proc.devRef .tc main_v6)) ∗ (bestLoc d ↦{fullShare} W (Proc.devRef .tc main_v8))) := by
  unfold StableHlo.held
  rw [bigSep_eq_bigSepL_of_eq [Proc.devRef .tc main_v1, Proc.devRef .tc main_v6, Proc.devRef .tc main_v8] (by decide) (by decide)]
  rfl

theorem held_sc (d : Dev nD) (W : Valuation τ sig (Elt F)) : (StableHlo.held (T d) refsSc W : sProp 𝕄)
    = iprop((xLoc d ↦{fullShare} W (Proc.devRef .tc main_arg0)) ∗ (iLoc d ↦{fullShare} W (Proc.devRef .tc main_v9))
      ∗ (fLoc d ↦{fullShare} W (Proc.devRef .tc main_v7)) ∗ (oLoc d ↦{fullShare} W (Proc.devRef .tc main_v10))) := by
  unfold StableHlo.held
  rw [bigSep_eq_bigSepL_of_eq [Proc.devRef .tc main_arg0, Proc.devRef .tc main_v9, Proc.devRef .tc main_v7, Proc.devRef .tc main_v10] (by decide) (by decide)]
  rfl

theorem V2_ne (d : Dev nD) (b : DevRef τ sig) (h : b ≠ Proc.devRef .tc main_v8) : V2 m d b = V1 m d b := Function.update_of_ne h _ _
theorem V2_self (d : Dev nD) : V2 m d (Proc.devRef .tc main_v8) = idxAll (kx m d) (fl m d) := Function.update_self _ _ _
theorem V4_ne (d : Dev nD) (b : DevRef τ sig) (h : b ≠ Proc.devRef .tc main_v10) : V4 m d b = V3 m d b := Function.update_of_ne h _ _
theorem V4_self (d : Dev nD) : V4 m d (Proc.devRef .tc main_v10) = shiftAll (aX m d) (aI m d) (aF m d) := Function.update_self _ _ _

/-- All of @main's buffers before and after the argmax call. -/
theorem split_V1 (d : Dev nD) : (held d (V1 m d) : sProp 𝕄) = iprop(((keyLoc d ↦{fullShare} (kx m d : Buf (Elt F) (keyLoc d)))
    ∗ (flagLoc d ↦{fullShare} (fl m d : Buf (Elt F) (flagLoc d))) ∗ (bestLoc d ↦{fullShare} (b0 m d : Buf (Elt F) (bestLoc d))))
    ∗ StableHlo.held (T d) (Pipeline.ucRefs τ sig \ refsTc) (V1 m d)) := by
  unfold held
  rw [StableHlo.held_sub_split (T d) refsTc_sub, held_tc]
  rfl
theorem split_V2 (d : Dev nD) : (held d (V2 m d) : sProp 𝕄) = iprop(((keyLoc d ↦{fullShare} (kx m d : Buf (Elt F) (keyLoc d)))
    ∗ (flagLoc d ↦{fullShare} (fl m d : Buf (Elt F) (flagLoc d))) ∗ (bestLoc d ↦{fullShare} (idxAll (kx m d) (fl m d) : Buf (Elt F) (bestLoc d))))
    ∗ StableHlo.held (T d) (Pipeline.ucRefs τ sig \ refsTc) (V1 m d)) := by
  unfold held
  rw [StableHlo.held_sub_split (T d) refsTc_sub, held_tc, V2_self, V2_ne m d _ (by decide), V2_ne m d _ (by decide),
    StableHlo.held_congr (T d) (V := V2 m d) (V' := V1 m d) fun b hb => V2_ne m d b fun e => (Finset.mem_sdiff.mp hb).2 (e ▸ by decide)]
  rfl

/-- All of @main's buffers before and after the SparseCore call. -/
theorem split_V3 (d : Dev nD) : (held d (V3 m d) : sProp 𝕄) = iprop(((xLoc d ↦{fullShare} (aX m d : Buf (Elt F) (xLoc d)))
    ∗ (iLoc d ↦{fullShare} (aI m d : Buf (Elt F) (iLoc d))) ∗ (fLoc d ↦{fullShare} (aF m d : Buf (Elt F) (fLoc d))) ∗ (oLoc d ↦{fullShare} (aO m d : Buf (Elt F) (oLoc d))))
    ∗ StableHlo.held (T d) (Pipeline.ucRefs τ sig \ refsSc) (V3 m d)) := by
  unfold held
  rw [StableHlo.held_sub_split (T d) refsSc_sub, held_sc]
  rfl
theorem split_V4 (d : Dev nD) : (held d (V4 m d) : sProp 𝕄) = iprop(((xLoc d ↦{fullShare} (aX m d : Buf (Elt F) (xLoc d)))
    ∗ (iLoc d ↦{fullShare} (aI m d : Buf (Elt F) (iLoc d))) ∗ (fLoc d ↦{fullShare} (aF m d : Buf (Elt F) (fLoc d)))
    ∗ (oLoc d ↦{fullShare} (shiftAll (aX m d) (aI m d) (aF m d) : Buf (Elt F) (oLoc d))))
    ∗ StableHlo.held (T d) (Pipeline.ucRefs τ sig \ refsSc) (V3 m d)) := by
  unfold held
  rw [StableHlo.held_sub_split (T d) refsSc_sub, held_sc, V4_self, V4_ne m d _ (by decide), V4_ne m d _ (by decide), V4_ne m d _ (by decide),
    StableHlo.held_congr (T d) (V := V4 m d) (V' := V3 m d) fun b hb => V4_ne m d b fun e => (Finset.mem_sdiff.mp hb).2 (e ▸ by decide)]
  rfl

theorem opsA_sub : ∀ op ∈ opsA (F := F), op.bufs ⊆ Pipeline.ucRefs τ sig := fun op h =>
  Pipeline.sub_ucRefs op (List.forall_iff_forall_mem.mp (show List.Forall (fun op => op.bufs ⊆ StableHlo.tcRefs τ sig) (opsA (F := F)) from
    ⟨StableHlo.reshape_bufs_sub .., StableHlo.unary_bufs_sub .., StableHlo.reshape_bufs_sub .., StableHlo.nullary_bufs_sub .., StableHlo.unary_bufs_sub .., StableHlo.binary_bufs_sub .., StableHlo.reshape_bufs_sub .., StableHlo.unary_bufs_sub .., StableHlo.unary_bufs_sub ..⟩) op h)
theorem opsA_fresh : ∀ op ∈ opsA (F := F), op.fresh = ∅ :=
  List.forall_iff_forall_mem.mp (show List.Forall (fun op => op.fresh = ∅) (opsA (F := F)) from ⟨rfl, rfl, rfl, rfl, rfl, rfl, rfl, rfl, rfl⟩)
theorem opsB_sub : ∀ op ∈ opsB (F := F), op.bufs ⊆ Pipeline.ucRefs τ sig := fun op h =>
  Pipeline.sub_ucRefs op (List.forall_iff_forall_mem.mp (show List.Forall (fun op => op.bufs ⊆ StableHlo.tcRefs τ sig) (opsB (F := F)) from
    StableHlo.reshape_bufs_sub ..) op h)
theorem opsB_fresh : ∀ op ∈ opsB (F := F), op.fresh = ∅ :=
  List.forall_iff_forall_mem.mp (show List.Forall (fun op => op.fresh = ∅) (opsB (F := F)) from rfl)
theorem opsC_sub : ∀ op ∈ opsC (F := F), op.bufs ⊆ Pipeline.ucRefs τ sig := fun op h =>
  Pipeline.sub_ucRefs op (List.forall_iff_forall_mem.mp (show List.Forall (fun op => op.bufs ⊆ StableHlo.tcRefs τ sig) (opsC (F := F)) from
    ⟨StableHlo.nullary_bufs_sub .., StableHlo.unary_bufs_sub .., StableHlo.binary_bufs_sub .., StableHlo.nullary_bufs_sub .., StableHlo.nullary_bufs_sub .., StableHlo.nullary_bufs_sub .., StableHlo.nullary_bufs_sub .., StableHlo.binaryIndexed_bufs_sub ..⟩) op h)
theorem opsC_fresh : ∀ op ∈ opsC (F := F), op.fresh = ∅ :=
  List.forall_iff_forall_mem.mp (show List.Forall (fun op => op.fresh = ∅) (opsC (F := F)) from ⟨rfl, rfl, rfl, rfl, rfl, rfl, rfl, rfl⟩)

/-! ## @main -/

/-- What the SparseCore call's handshakes carry. -/
abbrev PM : (K (F := F)).Pay (nD := nD) (Val := Elt F) (Name := ℕ) (U := UU) := P (aX m) (aI m) (aF m) (aO m)

/-- What the launch deals each TensorCore for its pipeline's staging cells. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The buffers the claims speak of. -/
abbrev inLoc (d : Dev nD) : Loc nD τ sig := (SparseCore.T d).loc main_arg0
abbrev maskLoc (d : Dev nD) : Loc nD τ sig := (SparseCore.T d).loc main_arg1
abbrev resLoc (d : Dev nD) : Loc nD τ sig := (SparseCore.T d).loc main_v12

def refsFin : Finset (DevRef τ sig) := {Proc.devRef .tc main_arg0, Proc.devRef .tc main_arg1, Proc.devRef .tc main_v12}

theorem refsFin_sub : refsFin ⊆ Pipeline.ucRefs τ sig := by
  unfold refsFin
  simp only [Finset.insert_subset_iff, Finset.singleton_subset_iff]
  exact ⟨Pipeline.devRef_mem_ucRefs rfl, Pipeline.devRef_mem_ucRefs rfl, Pipeline.devRef_mem_ucRefs rfl⟩

/-- The arguments and the result at the end. -/
def FIN (d : Dev nD) : sProp 𝕄 :=
  iprop((inLoc d ↦{fullShare} V5 m d (Proc.devRef .tc main_arg0)) ∗ (maskLoc d ↦{fullShare} V5 m d (Proc.devRef .tc main_arg1))
    ∗ (resLoc d ↦{fullShare} V5 m d (Proc.devRef .tc main_v12)))

theorem held_fin (d : Dev nD) : (held d (V5 m d) : sProp 𝕄) ⊢ FIN m d := by
  unfold held FIN
  rw [StableHlo.held_sub_split (T d) refsFin_sub]
  unfold StableHlo.held
  rw [bigSep_eq_bigSepL_of_eq (S := refsFin) [Proc.devRef .tc main_arg0, Proc.devRef .tc main_arg1, Proc.devRef .tc main_v12] (by decide) (by decide)]
  exact sep_elim_left

theorem unscoped_eq (d : Dev nD) : (unscopedBufs d (fun b => m ((SparseCore.T d).loc b)) : sProp 𝕄) = held d (V0 m d) :=
  Pipeline.unscopedBufs_held (Ix := HIx 1) (Name := ℕ) (U := UU) (Lvl := ℕ) d (V0 m d)

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_lines, unscoped_eq]
  iintro ⟨#Hctx, Hst, ⟨Hb, Hh, Hts, -⟩, Hg, Ht⟩
  ihave #Hlev := (SparseCore.Cfg.ctx_levAts κ) $$ Hctx
  iapply (StableHlo.wp_seq 𝒱 none Set.univ d _ _ opsA opsA_sub opsA_fresh (V0 m d)) $$ [Hb Hh]
  · isplitl [Hb] <;> iassumption
  iintro ⟨Hb, Hh⟩
  rw [show StableHlo.after opsA (V0 m d) = V1 m d from rfl]
  icases (Entails.of_eq (split_V1 m d)) $$ Hh with ⟨⟨H1, H6, H8⟩, Hh⟩
  rw [wp_bind]
  icases (Entails.of_eq (show (K (F := F)).tcSt EH d 0 = iprop((∃ W, ⌜(K (F := F)).WBelow (T d) W 0⌝ ∗ owes (T d) ((K (F := F)).Otc d 0) W)
    ∗ _) from rfl)) $$ Hst with ⟨HO, Hst⟩
  iapply (argmax_call (kx m) (fl m) (b0 m) d _) $$ [Hb H1 H6 H8 HO Hg Ht Hst Hh Hts]
  isplitl [Hb]; · iexact Hb
  isplitl [H1 H6 H8 HO]
  · unfold callSt
    isplitl [H1]; · iexact H1
    isplitl [H6]; · iexact H6
    isplitl [H8]; · iexact H8
    iexact HO
  isplitr; · iexact Hlev
  isplitl [Hg]; · iexact Hg
  isplitl [Ht]; · iexact Ht
  unfold callSt
  iintro ⟨Hb, H1, H6, H8, HO⟩
  ihave Hh := (Entails.of_eq (split_V2 m d).symm) $$ [H1 H6 H8 Hh]
  · isplitr [Hh]
    · isplitl [H1]; · iexact H1
      isplitl [H6]; · iexact H6
      iexact H8
    iexact Hh
  iapply (StableHlo.wp_seq 𝒱 none Set.univ d _ _ opsB opsB_sub opsB_fresh (V2 m d)) $$ [Hb Hh]
  · isplitl [Hb] <;> iassumption
  iintro ⟨Hb, Hh⟩
  rw [show StableHlo.after opsB (V2 m d) = V3 m d from rfl]
  icases (Entails.of_eq (split_V3 m d)) $$ Hh with ⟨⟨Hx, Hi, Hf, Ho⟩, Hh⟩
  rw [wp_bind]
  iapply ((K (F := F)).wp_run (D (F := F)) 𝒱 (EH := EH) (P := PM m) κ d 0) $$ [Hst HO Hx Hi Hf Ho Hh Hb Hts]
  isplitr; · iexact Hctx
  isplitl [HO Hst]
  · iapply (Entails.of_eq (show iprop((∃ W, ⌜(K (F := F)).WBelow (T d) W 0⌝ ∗ owes (T d) ((K (F := F)).Otc d 0) W)
      ∗ _) = (K (F := F)).tcSt EH d 0 from rfl))
    isplitl [HO] <;> iassumption
  isplitl [Hx Hi Hf Ho]
  · rw [st0_eq]
    isplitl [Hx]; · iexact Hx
    isplitl [Hi]; · iexact Hi
    isplitl [Hf]; · iexact Hf
    iexact Ho
  iintro ⟨Hst, Hdn⟩
  icases (Entails.of_eq (dn0_eq (aX m) (aI m) (aF m) (aO m) d)) $$ Hdn with ⟨Hx, Hi, Hf, Ho⟩
  ihave Hh := (Entails.of_eq (split_V4 m d).symm) $$ [Hx Hi Hf Ho Hh]
  · isplitr [Hh]
    · isplitl [Hx]; · iexact Hx
      isplitl [Hi]; · iexact Hi
      isplitl [Hf]; · iexact Hf
      iexact Ho
    iexact Hh
  iapply (StableHlo.wp_seq 𝒱 none Set.univ d _ _ opsC opsC_sub opsC_fresh (V4 m d)) $$ [Hb Hh]
  · isplitl [Hb] <;> iassumption
  iintro ⟨Hb, Hh⟩
  rw [show StableHlo.after opsC (V4 m d) = V5 m d from rfl, wp_pure]
  imodintro
  isplitl [Hst]; · iexact Hst
  isplitl [Hh]; · iapply (held_fin m d); iexact Hh
  isplitl [Hb] <;> iassumption

end Cert.Proof.Shift

end
-- ==== Proof.Values.lean ====
/-
  What the buffers of @main hold, as functions of the two arguments: the operands of the two calls, the arguments at the
  end, the result.
-/
module

public import proofs.«01_k».proof.Proof.Main

@[expose] public section

noncomputable section

namespace Cert.Proof.Shift

open Cert.KernelIdeal Cert.KernelIdeal.Gen

open Idealize.ShloMosaic Idealize.ShloMosaic.ValueIdx Idealize.ShloMosaic.TcCoe

variable {F : FTy → Type} [FloatOps F]

/-- The keys: the later half of the channels, one column per position. -/
def keysOf (X : Vec F S1x128x64x64 .f32) : Vec F S64x4096 .f32 :=
  extractStridedSlice S64x4096 ![64, 0] (shapeCast S128x4096 X shapeCasts_S1x128x64x64_S128x4096) slices_S128x4096_S64x4096_64_0
/-- Which positions are masked. -/
def flagOf (A : IVec S64x64 32) : IVec S4096 1 :=
  cmpi .sge (shapeCast S4096 A shapeCasts_S64x64_S4096) (broadcastInDim S4096 ![] bcast_S_S4096 (constantI S_ 32 1#32))
/-- The same as a column of words, and as floats. -/
def flagCol (A : IVec S64x64 32) : IVec S4096x1 32 := extui 32 (shapeCast S4096x1 (flagOf A) shapeCasts_S4096_S4096x1) natLt_1_32
def flagF (A : IVec S64x64 32) : FVec F S4096 .f32 := uitofp .f32 (flagOf A)
/-- The index of every position's best key. -/
def bestOf (X : Vec F S1x128x64x64 .f32) (A : IVec S64x64 32) : IVec S4096 32 :=
  shapeCast S4096 (idxAll (keysOf X) (flagCol A) : IVec S2x1x2048 32) shapeCasts_S2x1x2048_S4096
/-- The shifted planes. -/
def planesOf (X : Vec F S1x128x64x64 .f32) (A : IVec S64x64 32) : Vec F S1x64x64x64 .f32 := shiftAll X (bestOf X A) (flagF A)
/-- The result: the input, then the shifted planes. -/
def resultOf (X : Vec F S1x128x64x64 .f32) (A : IVec S64x64 32) : Vec F S1x192x64x64 .f32 :=
  Host.dynamicUpdateSlice (pad S1x192x64x64 ![0, 0, 0, 0] ![0, 64, 0, 0] ![0, 0, 0, 0] X (sitofp .f32 (constantI S_ 32 0#32)) pads_S1x128x64x64_S1x192x64x64_000_0640_000_000 h_S_)
    (planesOf X A) (fun k => ((![constantI S_ 32 0#32, constantI S_ 32 128#32, constantI S_ 32 0#32, constantI S_ 32 0#32] : Fin 4 → IVec S_ 32) k (Shape.Idx.first h_S_)).toInt)
    updateFits_S1x192x64x64_S1x64x64x64

variable (m : (ℓ : Loc nD τ sig) → Buf (Elt F) ℓ) (d : Dev nD)

theorem kx_eq : kx m d = keysOf (m (inLoc d)) := by
  unfold kx V1 opsA; after_results; rfl
theorem fl_eq : fl m d = flagCol (m (maskLoc d)) := by
  unfold fl V1 opsA; after_results; rfl
theorem V1_arg0 : V1 m d (Proc.devRef .tc main_arg0) = m (inLoc d) := by
  unfold V1 opsA; after_results; rfl
theorem V1_arg1 : V1 m d (Proc.devRef .tc main_arg1) = m (maskLoc d) := by
  unfold V1 opsA; after_results; rfl
theorem V1_v7 : V1 m d (Proc.devRef .tc main_v7) = flagF (m (maskLoc d)) := by
  unfold V1 opsA; after_results; rfl
theorem aX_eq : aX m d = m (inLoc d) := by
  unfold aX V3 opsB; after_results; rw [V2_ne m d _ (by decide), V1_arg0]
theorem aF_eq : aF m d = flagF (m (maskLoc d)) := by
  unfold aF V3 opsB; after_results; rw [V2_ne m d _ (by decide), V1_v7]
theorem aI_eq : aI m d = bestOf (m (inLoc d)) (m (maskLoc d)) := by
  unfold aI V3 opsB; after_results; rw [V2_self, kx_eq, fl_eq]; rfl
theorem V3_arg1 : V3 m d (Proc.devRef .tc main_arg1) = m (maskLoc d) := by
  unfold V3 opsB; after_results; rw [V2_ne m d _ (by decide), V1_arg1]
theorem V4_v10 : V4 m d (Proc.devRef .tc main_v10) = planesOf (m (inLoc d)) (m (maskLoc d)) := by
  rw [V4_self, aX_eq, aI_eq, aF_eq]; rfl
theorem V4_arg0 : V4 m d (Proc.devRef .tc main_arg0) = m (inLoc d) := (V4_ne m d _ (by decide)).trans (aX_eq m d)
theorem V5_arg0 : V5 m d (Proc.devRef .tc main_arg0) = m (inLoc d) := by
  unfold V5 opsC; after_results; exact V4_arg0 m d
theorem V5_arg1 : V5 m d (Proc.devRef .tc main_arg1) = m (maskLoc d) := by
  unfold V5 opsC; after_results; exact (V4_ne m d _ (by decide)).trans (V3_arg1 m d)

theorem V5_v12 : V5 m d (Proc.devRef .tc main_v12) = resultOf (m (inLoc d)) (m (maskLoc d)) := by
  unfold V5 opsC; after_results
  rw [V4_v10, V4_arg0]
  unfold resultOf
  congr 1
  funext k
  fin_cases k <;> rfl

theorem clamp_lt (w : BitVec 32) : (IntOp.minsi (IntOp.maxsi w 0#32) 4095#32).toNat < 4096 := by
  simp only [IntOp.minsi, IntOp.maxsi]
  split_ifs <;> simp_all [BitVec.slt_eq_decide, BitVec.toInt_eq_toNat_cond] <;> omega

/-- Every index names a position. -/
theorem bestOf_lt (X : Vec F S1x128x64x64 .f32) (A : IVec S64x64 32) (p : S4096.Idx) : (bestOf X A p).toNat < 4096 :=
  clamp_lt _

end Cert.Proof.Shift

end
-- ==== Proof.Run.lean ====
/-
  The whole program: the launch's ghost state dealt out, the final memory read back, and the run of every thread. Every
  fair execution ends, with the arguments as they were, the result `resultOf` of them, and every semaphore at zero.
-/
module

public import proofs.«01_k».proof.Proof.Values

@[expose] public section

noncomputable section

namespace Cert.Proof.Shift

open Cert.KernelIdeal Cert.KernelIdeal.Gen

open Idealize.ShloMosaic Idealize.ShloMosaic.ValueIdx Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The pipeline's part. -/
def uP : UP := initOf (Pipeline.cells (Pipeline.pin (pcfgs (F := F)) adm) pin_inj) (Pipeline.launchToks (Pipeline.pin (pcfgs (F := F)) adm) pin_inj)
def u₀ : UU := (initOf (K (F := F)).hsCells (K (F := F)).hsToks, (uP (F := F), 1))

/-- The pipeline's part funds the staging cells of every TensorCore. -/
theorem fund_pipe : BI.own ((EP : Emb UP 𝕄) (uP (F := F))) ⊢ (|==> bigSep Finset.univ fun d : Dev nD => G (F := F) d : sProp 𝕄) := by
  unfold uP G
  rw [bigSep_sep']
  have h := Pipeline.fund_ghost (Pipeline.pin (pcfgs (F := F)) adm) (EP : Emb UP 𝕄) pin_inj
  simp only [bigSep_univ_of_subsingleton (0 : Fin 1)] at h ⊢
  exact h

theorem own_EP (a : UP) (b : Counters) : BI.own ((embR : Emb (UP × Counters) 𝕄) (a, b)) ⊢ (BI.own ((EP : Emb UP 𝕄) a) : sProp 𝕄) :=
  (own_pair_emb (embR : Emb (UP × Counters) 𝕄) a b).trans sep_elim_left

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PM m).x q thr) := by
  unfold u₀
  iintro Hu
  icases (ownU_pair (initOf (K (F := F)).hsCells (K (F := F)).hsToks) ((uP (F := F), (1 : Counters)) : UP × Counters)) $$ Hu with ⟨HH, HR⟩
  ihave HP := (own_EP (F := F) (uP (F := F)) 1) $$ HR
  imod (fund_pipe (F := F)) $$ HP with HG
  imodintro
  isplitl [HH]; · iexact HH
  isplitl [HG]; · iexact HG
  rw [show (bigSep Finset.univ fun thr : Thread nD τ => bigSep Finset.univ fun q : Fin 1 => (PM m).x q thr) = bigSep Finset.univ fun _ => iprop(emp) from
    bigSep_congr fun _ _ => bigSep_univ_of_subsingleton (0 : Fin 1), bigSep_none]
  iempintro

/-! ## What is read back at the end -/

def fq (d : Dev nD) (s' : Phys nD τ sig (Elt F)) : Prop :=
  s'.mem.mem (inLoc d) = V5 m d (Proc.devRef .tc main_arg0) ∧ s'.mem.mem (maskLoc d) = V5 m d (Proc.devRef .tc main_arg1)
    ∧ s'.mem.mem (resLoc d) = V5 m d (Proc.devRef .tc main_v12)

set_option maxRecDepth 16384 in
theorem hfin (d : Dev nD) (s' : Phys nD τ sig (Elt F)) : iprop(FIN m d ∗ SI s') ⊢ (⌜fq m d s'⌝ : sProp 𝕄) := by
  unfold FIN
  iintro ⟨⟨Ha, Hb, Hr⟩, HSI⟩
  ihave H := (persistent_entails_right (SI_pointsTo_agree (st := s') (ℓ := inLoc d) (I := Finset.univ) (q := fullShare) (f := V5 m d (Proc.devRef .tc main_arg0)))) $$ [HSI Ha]
  · isplitl [HSI] <;> iassumption
  icases H with ⟨%h1, HSI, -⟩
  ihave H := (persistent_entails_right (SI_pointsTo_agree (st := s') (ℓ := maskLoc d) (I := Finset.univ) (q := fullShare) (f := V5 m d (Proc.devRef .tc main_arg1)))) $$ [HSI Hb]
  · isplitl [HSI] <;> iassumption
  icases H with ⟨%h2, HSI, -⟩
  ihave H := (SI_pointsTo_agree (st := s') (ℓ := resLoc d) (I := Finset.univ) (q := fullShare) (f := V5 m d (Proc.devRef .tc main_v12))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ d : Dev nD, r.2.mem (inLoc d) = m (inLoc d) ∧ r.2.mem (maskLoc d) = m (maskLoc d) ∧ r.2.mem (resLoc d) = resultOf (m (inLoc d)) (m (maskLoc d)))
    ∧ r.2.sem = fun _ => 0

theorem idx_ok (d : Dev nD) (p : S4096.Idx) : (aI m d p : BitVec 32).toNat < 4096 := by
  rw [aI_eq]; exact bestOf_lt _ _ p

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) scFacts v₀
    (fun q hq => match q with | 0 => nomatch hq)
    (fun q _ => match q with | 0 => tileObl (aX m) (aI m) (aF m) (aO m) (idx_ok m))
    (fun q _ => match q with | 0 => SparseCore.Cfg.VecSplit.of_plain (vecSplit (aX m) (aI m) (aF m) (aO m)))
    m ρ main (fun d => G (F := F) d) (FIN m) (u₀ (F := F)) (sep_elim_left.trans (hu₀ m)) (hmain m ρ) (fq m) (hfin m) (QC m)
    (fun _ h hz => ⟨fun d => ⟨(h d).1.trans (V5_arg0 m d), (h d).2.1.trans (V5_arg1 m d), (h d).2.2.trans (V5_v12 m d)⟩, hz⟩)

end Cert.Proof.Shift

end
-- ==== Proof.Ref.lean ====
/-
  The run of the reference, a program of host operations only: what it leaves in its result, as one composed term
  (`outOf`), and its arguments unchanged. It is read in four stretches: the similarities, the argmax, the row gather, and
  the masked rows laid behind the input.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen

open Idealize.ShloMosaic Idealize.ShloMosaic.StableHlo Idealize.ShloMosaic.TcCoe
open Idealize.SL.Sem

variable {F : FTy → Type} [FloatOps F]

/-! ## The operations -/

/-- The similarities of every pair of positions. -/
def opsSim : List (HloOp τ sig (Elt F)) :=
  [StableHlo.unary main_arg0 main_v0 ((extractStridedSlice S1x64x64x64 ![0, 0, 0, 0] · slices_S1x128x64x64_S1x64x64x64_0_0_0_0) : (⟨S1x128x64x64, .f32⟩ : BufTy).Contents (Elt F) → (⟨S1x64x64x64, .f32⟩ : BufTy).Contents (Elt F)),
   StableHlo.unary main_arg0 main_v1 ((extractStridedSlice S1x64x64x64 ![0, 64, 0, 0] · slices_S1x128x64x64_S1x64x64x64_0_64_0_0) : (⟨S1x128x64x64, .f32⟩ : BufTy).Contents (Elt F) → (⟨S1x64x64x64, .f32⟩ : BufTy).Contents (Elt F)),
   StableHlo.reshape main_arg1 main_v2 (rfl : (.i32 : EltTy) = .i32) shapeCasts_S64x64_S4096,
   StableHlo.nullary main_c (constantI S_ 32 1#32),
   StableHlo.unary main_c main_v3 (broadcastInDim S4096 ![] bcast_S_S4096 : (⟨S_, .i32⟩ : BufTy).Contents (Elt F) → (⟨S4096, .i32⟩ : BufTy).Contents (Elt F)),
   StableHlo.binary main_v2 main_v3 main_v4 (cmpi .sge : (⟨S4096, .i32⟩ : BufTy).Contents (Elt F) → (⟨S4096, .i32⟩ : BufTy).Contents (Elt F) → (⟨S4096, .i1⟩ : BufTy).Contents (Elt F)),
   StableHlo.reshape main_v1 main_v5 (rfl : (.f32 : EltTy) = .f32) shapeCasts_S1x64x64x64_S64x64x64,
   StableHlo.reshape main_v5 main_v6 (rfl : (.f32 : EltTy) = .f32) shapeCasts_S64x64x64_S64x4096,
   StableHlo.unary main_v6 main_v7 ((transpose S4096x64 [1, 0] · transposes_S64x4096_S4096x64_1_0) : (⟨S64x4096, .f32⟩ : BufTy).Contents (Elt F) → (⟨S4096x64, .f32⟩ : BufTy).Contents (Elt F)),
   StableHlo.binary main_v7 main_v7 main_v8 (mulf : (⟨S4096x64, .f32⟩ : BufTy).Contents (Elt F) → (⟨S4096x64, .f32⟩ : BufTy).Contents (Elt F) → (⟨S4096x64, .f32⟩ : BufTy).Contents (Elt F)),
   StableHlo.nullary main_cst (constant S_ .f32 0x00000000#32),
   StableHlo.binary main_v8 main_cst main_v9 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v9 main_v10 (broadcastInDim S4096x1 ![0] bcast_S4096_S4096x1_0 : (⟨S4096, .f32⟩ : BufTy).Contents (Elt F) → (⟨S4096x1, .f32⟩ : BufTy).Contents (Elt F)),
   StableHlo.unary main_v10 main_v11 (Host.sqrt : (⟨S4096x1, .f32⟩ : BufTy).Contents (Elt F) → (⟨S4096x1, .f32⟩ : BufTy).Contents (Elt F)),
   StableHlo.nullary main_cst_0 (constant S_ .f32 0x322BCC77#32),
   StableHlo.unary main_cst_0 main_v12 (broadcastInDim S4096x1 ![] bcast_S_S4096x1 : (⟨S_, .f32⟩ : BufTy).Contents (Elt F) → (⟨S4096x1, .f32⟩ : BufTy).Contents (Elt F)),
   StableHlo.binary main_v11 main_v12 main_v13 (addf : (⟨S4096x1, .f32⟩ : BufTy).Contents (Elt F) → (⟨S4096x1, .f32⟩ : BufTy).Contents (Elt F) → (⟨S4096x1, .f32⟩ : BufTy).Contents (Elt F)),
   StableHlo.unary main_v13 main_v14 (broadcastInDim S4096x64 ![0, 1] bcast_S4096x1_S4096x64_0_1 : (⟨S4096x1, .f32⟩ : BufTy).Contents (Elt F) → (⟨S4096x64, .f32⟩ : BufTy).Contents (Elt F)),
   StableHlo.binary main_v7 main_v14 main_v15 (Host.divf : (⟨S4096x64, .f32⟩ : BufTy).Contents (Elt F) → (⟨S4096x64, .f32⟩ : BufTy).Contents (Elt F) → (⟨S4096x64, .f32⟩ : BufTy).Contents (Elt F)),
   StableHlo.unary main_v15 main_v16 ((transpose S64x4096 [1, 0] · transposes_S4096x64_S64x4096_1_0) : (⟨S4096x64, .f32⟩ : BufTy).Contents (Elt F) → (⟨S64x4096, .f32⟩ : BufTy).Contents (Elt F)),
   StableHlo.binary main_v7 main_v16 main_v17 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F))]

/-- The masked keys put at the constant, and the argmax of every row. -/
def opsBest : List (HloOp τ sig (Elt F)) :=
  [StableHlo.unary main_v4 main_v18 (broadcastInDim S1x4096 ![1] bcast_S4096_S1x4096_1 : (⟨S4096, .i1⟩ : BufTy).Contents (Elt F) → (⟨S1x4096, .i1⟩ : BufTy).Contents (Elt F)),
   StableHlo.nullary main_cst_1 (constant S_ .f32 0xCE6E6B28#32),
   StableHlo.TRef.unary (.of main_v18 : StableHlo.TRef sig ⟨S1x4096, .i1⟩) main_call0.v0 (broadcastInDim S4096x4096 ![0, 1] bcast_S1x4096_S4096x4096_0_1),
   StableHlo.TRef.unary (.of main_cst_1 : StableHlo.TRef sig ⟨S_, .f32⟩) main_call0.v1 (broadcastInDim S4096x4096 ![] bcast_S_S4096x4096),
   StableHlo.TRef.ternary main_call0.v0 main_call0.v1 (.of main_v17 : StableHlo.TRef sig ⟨S4096x4096, .f32⟩) main_call0.v2 select,
   StableHlo.TRef.nullary main_call1.v0 (iotaInDim S4096x4096 32 1),
   StableHlo.TRef.nullary main_call1.cst (constant S_ .f32 0xFF800000#32),
   StableHlo.TRef.nullary main_call1.c (constantI S_ 32 0#32),
   StableHlo.TRef.quaternary (.of main_v19 : StableHlo.TRef sig ⟨S4096x4096, .f32⟩) main_call1.v0 main_call1.cst main_call1.c main_call1.v1_0 (fun x y u v j => (Host.argReduce reducer_argmax_f32_i32 x y u v reducesTo_S4096x4096_S4096_d1 h_S_ j).1),
   StableHlo.TRef.quaternary (.of main_v19 : StableHlo.TRef sig ⟨S4096x4096, .f32⟩) main_call1.v0 main_call1.cst main_call1.c main_call1.v1_1 (fun x y u v j => (Host.argReduce reducer_argmax_f32_i32 x y u v reducesTo_S4096x4096_S4096_d1 h_S_ j).2)]

/-- The rows of the earlier half of the channels, gathered. -/
def opsTake : List (HloOp τ sig (Elt F)) :=
  [StableHlo.reshape main_v0 main_v21 (rfl : (.f32 : EltTy) = .f32) shapeCasts_S1x64x64x64_S64x64x64,
   StableHlo.reshape main_v21 main_v22 (rfl : (.f32 : EltTy) = .f32) shapeCasts_S64x64x64_S64x4096,
   StableHlo.unary main_v22 main_v23 ((transpose S4096x64 [1, 0] · transposes_S64x4096_S4096x64_1_0) : (⟨S64x4096, .f32⟩ : BufTy).Contents (Elt F) → (⟨S4096x64, .f32⟩ : BufTy).Contents (Elt F)),
   StableHlo.TRef.nullary main_call2.c (constantI S_ 32 0#32),
   StableHlo.TRef.unary main_call2.c main_call2.v0 (broadcastInDim S4096 ![] bcast_S_S4096),
   StableHlo.TRef.binary (.of main_v20 : StableHlo.TRef sig ⟨S4096, .i32⟩) main_call2.v0 main_call2.v1 (cmpi .slt),
   StableHlo.TRef.nullary main_call2.c_0 (constantI S_ 32 4096#32),
   StableHlo.TRef.unary main_call2.c_0 main_call2.v2 (broadcastInDim S4096 ![] bcast_S_S4096),
   StableHlo.TRef.binary (.of main_v20 : StableHlo.TRef sig ⟨S4096, .i32⟩) main_call2.v2 main_call2.v3 addi,
   StableHlo.TRef.ternary main_call2.v1 main_call2.v3 (.of main_v20 : StableHlo.TRef sig ⟨S4096, .i32⟩) main_call2.call0.v0 select,
   StableHlo.TRef.unary main_call2.call0.v0 main_call2.v5 (broadcastInDim S4096x1 ![0] bcast_S4096_S4096x1_0),
   StableHlo.TRef.nullary main_call2.c_1 (constantI S1 32 4095#32),
   StableHlo.TRef.nullary main_call2.c_2 (constantI S_ 32 0#32),
   StableHlo.TRef.unary main_call2.c_2 main_call2.v6 (broadcastInDim S4096x1 ![] bcast_S_S4096x1),
   StableHlo.TRef.binary main_call2.v5 main_call2.v6 main_call2.v7 (cmpi .sge),
   StableHlo.TRef.unary main_call2.c_1 main_call2.v8 (broadcastInDim S1x1 ![1] bcast_S1_S1x1_1),
   StableHlo.TRef.unary main_call2.v8 main_call2.v9 (broadcastInDim S4096x1 ![0, 1] bcast_S1x1_S4096x1_0_1),
   StableHlo.TRef.binary main_call2.v5 main_call2.v9 main_call2.v10 (cmpi .sle),
   StableHlo.TRef.binary main_call2.v7 main_call2.v10 main_call2.v11 andi,
   StableHlo.TRef.nullary main_call2.c_3 (constantI S_ 1 1#1),
   StableHlo.TRef.binary main_call2.v11 main_call2.c_3 main_call2.v12 (fun x v => Host.reduce IntOp.andi x v reducesTo_S4096x1_S4096_d1 h_S_),
   StableHlo.TRef.binary (.of main_v23 : StableHlo.TRef sig ⟨S4096x64, .f32⟩) main_call2.v5 main_call2.v13 (fun x i => Host.gather gather_S4096x64_S4096x1_S4096x64_1_0_n_n_0_1_164 x i),
   StableHlo.TRef.unary main_call2.v12 main_call2.v14 (broadcastInDim S4096x64 ![0] bcast_S4096_S4096x64_0),
   StableHlo.TRef.nullary main_call2.cst (constant S_ .f32 0x7FC00000#32),
   StableHlo.TRef.unary main_call2.cst main_call2.v15 (broadcastInDim S4096x64 ![] bcast_S_S4096x64),
   StableHlo.TRef.ternary main_call2.v14 main_call2.v13 main_call2.v15 main_call2.v16 select]

/-- The gathered rows masked, and laid behind the input. -/
def opsOut : List (HloOp τ sig (Elt F)) :=
  [StableHlo.unary main_v4 main_v25 (broadcastInDim S4096x1 ![0] bcast_S4096_S4096x1_0 : (⟨S4096, .i1⟩ : BufTy).Contents (Elt F) → (⟨S4096x1, .i1⟩ : BufTy).Contents (Elt F)),
   StableHlo.nullary main_cst_2 (constant S_ .f32 0x00000000#32),
   StableHlo.TRef.unary (.of main_v25 : StableHlo.TRef sig ⟨S4096x1, .i1⟩) main_call3.v0 (broadcastInDim S4096x64 ![0, 1] bcast_S4096x1_S4096x64_0_1),
   StableHlo.TRef.unary (.of main_cst_2 : StableHlo.TRef sig ⟨S_, .f32⟩) main_call3.v1 (broadcastInDim S4096x64 ![] bcast_S_S4096x64),
   StableHlo.TRef.ternary main_call3.v0 (.of main_v24 : StableHlo.TRef sig ⟨S4096x64, .f32⟩) main_call3.v1 main_call3.v2 select,
   StableHlo.unary main_v26 main_v27 ((transpose S64x4096 [1, 0] · transposes_S4096x64_S64x4096_1_0) : (⟨S4096x64, .f32⟩ : BufTy).Contents (Elt F) → (⟨S64x4096, .f32⟩ : BufTy).Contents (Elt F)),
   StableHlo.reshape main_v27 main_v28 (rfl : (.f32 : EltTy) = .f32) shapeCasts_S64x4096_S1x64x64x64,
   StableHlo.nary ![main_v0, main_v1, main_v28] main_v29 (fun u => (concatenate S1x192x64x64 1 [⟨S1x64x64x64, (u 0 : (⟨S1x64x64x64, .f32⟩ : BufTy).Contents (Elt F))⟩, ⟨S1x64x64x64, (u 1 : (⟨S1x64x64x64, .f32⟩ : BufTy).Contents (Elt F))⟩, ⟨S1x64x64x64, (u 2 : (⟨S1x64x64x64, .f32⟩ : BufTy).Contents (Elt F))⟩] concatenates_S1x64x64x64_S1x64x64x64_S1x64x64x64_S1x192x64x64_d1 : (⟨S1x192x64x64, .f32⟩ : BufTy).Contents (Elt F)))]

def ops : List (HloOp τ sig (Elt F)) := opsSim ++ (opsBest ++ (opsTake ++ opsOut))

theorem main_eq (d : Dev nD) : main (F := F) d = seq ops := rfl

/-! ## What they compute -/

/-- One row per position: the keys, and the rows to move. -/
def rowsOf (X : Vec F S1x64x64x64 .f32) : Vec F S4096x64 .f32 :=
  transpose S4096x64 [1, 0] (shapeCast S64x4096 (shapeCast S64x64x64 X shapeCasts_S1x64x64x64_S64x64x64) shapeCasts_S64x64x64_S64x4096)
    transposes_S64x4096_S4096x64_1_0
def laterOf (X : Vec F S1x128x64x64 .f32) : Vec F S1x64x64x64 .f32 := extractStridedSlice S1x64x64x64 ![0, 64, 0, 0] X slices_S1x128x64x64_S1x64x64x64_0_64_0_0
def earlierOf (X : Vec F S1x128x64x64 .f32) : Vec F S1x64x64x64 .f32 := extractStridedSlice S1x64x64x64 ![0, 0, 0, 0] X slices_S1x128x64x64_S1x64x64x64_0_0_0_0
/-- Which positions are masked. -/
def flagOf (A : IVec S64x64 32) : IVec S4096 1 :=
  cmpi .sge (shapeCast S4096 A shapeCasts_S64x64_S4096) (broadcastInDim S4096 ![] bcast_S_S4096 (constantI S_ 32 1#32))
/-- The norm of every row, away from zero. -/
def normOf (L : Vec F S4096x64 .f32) : Vec F S4096x1 .f32 :=
  addf (Host.sqrt (broadcastInDim S4096x1 ![0] bcast_S4096_S4096x1_0 (Host.reduceAdd (mulf L L) (constant S_ .f32 0x00000000#32) reducesTo_S4096x64_S4096_d1 h_S_)))
    (broadcastInDim S4096x1 ![] bcast_S_S4096x1 (constant S_ .f32 0x322BCC77#32))
/-- The similarity of every row with every normalized row. -/
def simOf (L : Vec F S4096x64 .f32) : Vec F S4096x4096 .f32 :=
  Host.dotGeneral dot_S4096x64_S64x4096_S4096x4096_1_0_0_1_n_n none L
    (transpose S64x4096 [1, 0] (Host.divf L (broadcastInDim S4096x64 ![0, 1] bcast_S4096x1_S4096x64_0_1 (normOf L))) transposes_S4096x64_S64x4096_1_0)
/-- The masked keys put at the constant. -/
def maskedOf (fl : IVec S4096 1) (s : Vec F S4096x4096 .f32) : Vec F S4096x4096 .f32 :=
  select (broadcastInDim S4096x4096 ![0, 1] bcast_S1x4096_S4096x4096_0_1 (broadcastInDim S1x4096 ![1] bcast_S4096_S1x4096_1 fl))
    (broadcastInDim S4096x4096 ![] bcast_S_S4096x4096 (constant S_ .f32 0xCE6E6B28#32)) s
/-- The index the reduction of (element, index) pairs ends with. -/
def argIdx {s t u : Shape} {axes : List (Fin s.rank)} (x : FVec F s .f32) (y : IVec s 32) (ix : FVec F u .f32) (iy : IVec u 32)
    (h : s.ReducesTo axes t) (hu : 0 < u.numel) : IVec t 32 :=
  fun j => (Host.argReduce reducer_argmax_f32_i32 x y ix iy h hu j).2
/-- The index of the best key of every row. -/
def argOf (s : Vec F S4096x4096 .f32) : IVec S4096 32 :=
  argIdx s (iotaInDim S4096x4096 32 1) (constant S_ .f32 0xFF800000#32) (constantI S_ 32 0#32) reducesTo_S4096x4096_S4096_d1 h_S_
/-- The index read from the end where negative, as a column. -/
def wrapOf (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 4096#32))) i)
/-- Whether it names a row. -/
def insideOf (w : IVec S4096x1 32) : IVec S4096 1 :=
  Host.reduce IntOp.andi
    (andi (cmpi .sge w (broadcastInDim S4096x1 ![] bcast_S_S4096x1 (constantI S_ 32 0#32)))
      (cmpi .sle w (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_
/-- The rows at the indices. -/
def takeOf (T : Vec F S4096x64 .f32) (i : IVec S4096 32) : Vec F S4096x64 .f32 :=
  select (broadcastInDim S4096x64 ![0] bcast_S4096_S4096x64_0 (insideOf (wrapOf i)))
    (Host.gather gather_S4096x64_S4096x1_S4096x64_1_0_n_n_0_1_164 T (wrapOf i))
    (broadcastInDim S4096x64 ![] bcast_S_S4096x64 (constant S_ .f32 0x7FC00000#32))
/-- The masked positions' rows, zero elsewhere, as planes. -/
def shiftOf (fl : IVec S4096 1) (T : Vec F S4096x64 .f32) : Vec F S1x64x64x64 .f32 :=
  shapeCast S1x64x64x64
    (transpose S64x4096 [1, 0]
      (select (broadcastInDim S4096x64 ![0, 1] bcast_S4096x1_S4096x64_0_1 (broadcastInDim S4096x1 ![0] bcast_S4096_S4096x1_0 fl)) T
        (broadcastInDim S4096x64 ![] bcast_S_S4096x64 (constant S_ .f32 0x00000000#32)))
      transposes_S4096x64_S64x4096_1_0) shapeCasts_S64x4096_S1x64x64x64
/-- The three stacks of planes laid one behind the other. -/
def joined (a b c : Vec F S1x64x64x64 .f32) : Vec F S1x192x64x64 .f32 :=
  concatenate S1x192x64x64 1 [⟨S1x64x64x64, a⟩, ⟨S1x64x64x64, b⟩, ⟨S1x64x64x64, c⟩] concatenates_S1x64x64x64_S1x64x64x64_S1x64x64x64_S1x192x64x64_d1
/-- The index of every position's best key. -/
def bestOf (X : Vec F S1x128x64x64 .f32) (A : IVec S64x64 32) : IVec S4096 32 := argOf (maskedOf (flagOf A) (simOf (rowsOf (laterOf X))))
/-- The result. -/
def outOf (X : Vec F S1x128x64x64 .f32) (A : IVec S64x64 32) : Vec F S1x192x64x64 .f32 :=
  joined (earlierOf X) (laterOf X) (shiftOf (flagOf A) (takeOf (rowsOf (earlierOf X)) (bestOf X A)))

/-! ## The buffers after each stretch -/

theorem after_two (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

variable (V : Valuation τ sig (Elt F))

theorem sim_arg0 : after opsSim V (Proc.devRef .tc main_arg0) = V (Proc.devRef .tc main_arg0) := by
  unfold opsSim; after_results
theorem sim_arg1 : after opsSim V (Proc.devRef .tc main_arg1) = V (Proc.devRef .tc main_arg1) := by
  unfold opsSim; after_results
theorem sim_v0 : after opsSim V (Proc.devRef .tc main_v0) = earlierOf (V (Proc.devRef .tc main_arg0)) := by
  unfold opsSim; after_results; rfl
theorem sim_v1 : after opsSim V (Proc.devRef .tc main_v1) = laterOf (V (Proc.devRef .tc main_arg0)) := by
  unfold opsSim; after_results; rfl
theorem sim_v4 : after opsSim V (Proc.devRef .tc main_v4) = flagOf (V (Proc.devRef .tc main_arg1)) := by
  unfold opsSim; after_results; rfl
theorem sim_v17 : after opsSim V (Proc.devRef .tc main_v17) = simOf (rowsOf (laterOf (V (Proc.devRef .tc main_arg0)))) := by
  unfold opsSim; after_results; rfl

theorem best_arg0 : after opsBest V (Proc.devRef .tc main_arg0) = V (Proc.devRef .tc main_arg0) := by
  unfold opsBest; after_results
theorem best_arg1 : after opsBest V (Proc.devRef .tc main_arg1) = V (Proc.devRef .tc main_arg1) := by
  unfold opsBest; after_results
theorem best_v0 : after opsBest V (Proc.devRef .tc main_v0) = V (Proc.devRef .tc main_v0) := by
  unfold opsBest; after_results
theorem best_v1 : after opsBest V (Proc.devRef .tc main_v1) = V (Proc.devRef .tc main_v1) := by
  unfold opsBest; after_results
theorem best_v4 : after opsBest V (Proc.devRef .tc main_v4) = V (Proc.devRef .tc main_v4) := by
  unfold opsBest; after_results
theorem best_v20 : after opsBest V (Proc.devRef .tc main_v20)
    = argOf (F := F) (maskedOf (V (Proc.devRef .tc main_v4)) (V (Proc.devRef .tc main_v17))) := by
  unfold opsBest; after_results; rfl

theorem take_arg0 : after opsTake V (Proc.devRef .tc main_arg0) = V (Proc.devRef .tc main_arg0) := by
  unfold opsTake; after_results
theorem take_arg1 : after opsTake V (Proc.devRef .tc main_arg1) = V (Proc.devRef .tc main_arg1) := by
  unfold opsTake; after_results
theorem take_v0 : after opsTake V (Proc.devRef .tc main_v0) = V (Proc.devRef .tc main_v0) := by
  unfold opsTake; after_results
theorem take_v1 : after opsTake V (Proc.devRef .tc main_v1) = V (Proc.devRef .tc main_v1) := by
  unfold opsTake; after_results
theorem take_v4 : after opsTake V (Proc.devRef .tc main_v4) = V (Proc.devRef .tc main_v4) := by
  unfold opsTake; after_results
theorem take_v24 : after opsTake V (Proc.devRef .tc main_v24)
    = takeOf (F := F) (rowsOf (V (Proc.devRef .tc main_v0))) (V (Proc.devRef .tc main_v20)) := by
  unfold opsTake; after_results; rfl

theorem out_arg0 : after opsOut V (Proc.devRef .tc main_arg0) = V (Proc.devRef .tc main_arg0) := by
  unfold opsOut; after_results
theorem out_arg1 : after opsOut V (Proc.devRef .tc main_arg1) = V (Proc.devRef .tc main_arg1) := by
  unfold opsOut; after_results
theorem out_v29 : after opsOut V (Proc.devRef .tc main_v29)
    = joined (F := F) (V (Proc.devRef .tc main_v0)) (V (Proc.devRef .tc main_v1)) (shiftOf (V (Proc.devRef .tc main_v4)) (V (Proc.devRef .tc main_v24))) := by
  unfold opsOut; after_results; rfl

theorem ops_arg0 : after ops V (Proc.devRef .tc main_arg0) = V (Proc.devRef .tc main_arg0) := by
  unfold ops; rw [after_two, after_two, after_two, out_arg0, take_arg0, best_arg0, sim_arg0]
theorem ops_arg1 : after ops V (Proc.devRef .tc main_arg1) = V (Proc.devRef .tc main_arg1) := by
  unfold ops; rw [after_two, after_two, after_two, out_arg1, take_arg1, best_arg1, sim_arg1]
theorem ops_v29 : after ops V (Proc.devRef .tc main_v29) = outOf (F := F) (V (Proc.devRef .tc main_arg0)) (V (Proc.devRef .tc main_arg1)) := by
  unfold ops
  rw [after_two, after_two, after_two, out_v29, take_v0, take_v1, take_v4, take_v24, best_v0, best_v1, best_v4, best_v20,
    sim_v0, sim_v1, sim_v4, sim_v17]
  rfl

/-! ## The run -/

theorem sim_bufs : (opsSim (F := F)).Forall fun op => op.bufs ⊆ tcRefs τ sig := by
  simp only [opsSim, List.Forall, nullary_bufs_sub, unary_bufs_sub, binary_bufs_sub, reshape_bufs_sub, and_self]
theorem best_bufs : (opsBest (F := F)).Forall fun op => op.bufs ⊆ tcRefs τ sig := by
  simp only [opsBest, List.Forall, TRef.nullary, TRef.unary, TRef.ternary, TRef.quaternary, nullary_bufs_sub, unary_bufs_sub, ternary_bufs_sub,
    quaternary_bufs_sub, and_self]
theorem take_bufs : (opsTake (F := F)).Forall fun op => op.bufs ⊆ tcRefs τ sig := by
  simp only [opsTake, List.Forall, TRef.nullary, TRef.unary, TRef.binary, TRef.ternary, nullary_bufs_sub, unary_bufs_sub, binary_bufs_sub,
    ternary_bufs_sub, reshape_bufs_sub, and_self]
theorem out_bufs : (opsOut (F := F)).Forall fun op => op.bufs ⊆ tcRefs τ sig := by
  simp only [opsOut, List.Forall, TRef.unary, TRef.ternary, nullary_bufs_sub, unary_bufs_sub, ternary_bufs_sub, reshape_bufs_sub, nary_bufs_sub,
    and_self]
theorem ops_bufs : (ops (F := F)).Forall fun op => op.bufs ⊆ tcRefs τ sig := by
  simp only [ops, List.forall_append]
  exact ⟨sim_bufs, best_bufs, take_bufs, out_bufs⟩

variable (m : (ℓ : Loc nD τ sig) → Buf (Elt F) ℓ) (ρ : Dev nD → PrngReg)

/-- From any memory the reference ends with its result at `outOf` of its arguments, and the arguments as they were. -/
theorem run_main : θ_run (Cert.ReferenceIdeal.defs (F := F)) (onTc (τ := τ) (main (F := F))) ⟨m, fun _ => 0, ρ⟩ fun r =>
    ∀ d : Dev nD, r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_v29)
        = outOf (F := F) (m ((d.tc : Thread nD τ).loc main_arg0)) (m ((d.tc : Thread nD τ).loc main_arg1)) :=
  (θ_run _ _ _).mono
    (fun r h d => ⟨(h d main_arg0).trans (ops_arg0 _), (h d main_arg1).trans (ops_arg1 _), (h d main_v29).trans (ops_v29 _)⟩)
    (run_seq (by decide) (by decide) _ main (fun _ => ops) main_eq (fun _ => ops_bufs) m ρ)

end Cert.Proof.Ref

end
-- ==== Proof.Best.lean ====
/-
  The index of the best element of a column, exactly: the least index whose element is greatest. The kernel's index
  reduction and the reference's fold over (element, index) pairs both compute it.
-/
module

public import proofs.«01_k».proof.Proof.Ref
public import proofs.«01_k».proof.Proof.Values
public import Idealize.ShloMosaic.Lib.Pointwise

@[expose] public section

noncomputable section

namespace Cert.Proof.Best

open Idealize.ShloMosaic

/-- `c` is the least index at which `f` is greatest. -/
def IsBest {n : ℕ} (f : Fin n → EReal) (c : Fin n) : Prop := ∀ i, f i ≤ f c ∧ (f i = f c → c ≤ i)

theorem IsBest.unique {n : ℕ} {f : Fin n → EReal} {a b : Fin n} (ha : IsBest f a) (hb : IsBest f b) : a = b := by
  have e : f a = f b := le_antisymm (hb a).1 (ha b).1
  exact le_antisymm ((ha b).2 e.symm) ((hb a).2 e)

/-! ## The reference's fold -/

/-- One step of the fold keeps the pair whose element is greater, and of two equal ones the lesser index. -/
theorem step_cases (v x : EReal) (w u : BitVec 32) :
    Cert.ReferenceIdeal.reducer_argmax_f32_i32 (F := Ideal) (v, w) (x, u)
      = if x < v then (v, w) else if v = x then (v, if w.slt u then w else u) else (x, u) := by
  unfold Cert.ReferenceIdeal.reducer_argmax_f32_i32
  simp only [Ideal.cmpf_def, Ideal.cmp, IntOp.ori, IntOp.andi, IntOp.cmpi, Scalar.select]
  by_cases h : x < v
  · have o : ∀ z : BitVec 1, (1#1 ||| z) = 1#1 := by decide
    simp [h, o]
  · by_cases e : v = x
    · subst e; by_cases g : w.slt u = true <;> simp [g]
    · simp [h, e]

theorem slt_ofNat (a b : Fin 4096) : (BitVec.ofNat 32 a.val).slt (BitVec.ofNat 32 b.val) = decide (a < b) := by
  have ha := a.isLt; have hb := b.isLt
  rw [BitVec.slt_eq_decide, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  exact decide_eq_decide.2 (by rw [Fin.lt_def]; omega)

/-- The fold over any list of indices, started at the least value and index zero. -/
theorem fold_best {ι : Type} (x : ι → EReal) (c : ι → Fin 4096) (l : List ι) :
    ∃ a : Fin 4096, ∃ v : EReal,
      l.foldl (fun r i => Cert.ReferenceIdeal.reducer_argmax_f32_i32 (F := Ideal) r (x i, BitVec.ofNat 32 (c i).val)) ((⊥ : EReal), 0#32)
        = (v, BitVec.ofNat 32 a.val)
      ∧ ((∃ i ∈ l, c i = a ∧ x i = v) ∨ (a = 0 ∧ v = ⊥))
      ∧ ∀ i ∈ l, x i ≤ v ∧ (x i = v → a ≤ c i) := by
  induction l using List.reverseRecOn with
  | nil => exact ⟨0, ⊥, rfl, .inr ⟨rfl, rfl⟩, by simp⟩
  | append_singleton l i ih =>
    obtain ⟨a, v, hf, hs, hm⟩ := ih
    rw [List.foldl_append, hf, List.foldl_cons, List.foldl_nil, step_cases]
    by_cases h : x i < v
    · refine ⟨a, v, by rw [if_pos h], ?_, ?_⟩
      · rcases hs with ⟨k, hk, e⟩ | e
        · exact .inl ⟨k, List.mem_append_left _ hk, e⟩
        · exact .inr e
      · intro k hk
        rcases List.mem_append.1 hk with hk | hk
        · exact hm k hk
        · rw [List.mem_singleton.1 hk]; exact ⟨h.le, fun e => absurd e h.ne⟩
    rw [if_neg h]
    by_cases e : v = x i
    · rw [if_pos e, slt_ofNat]
      by_cases g : a < c i
      · refine ⟨a, v, by simp [g], ?_, ?_⟩
        · rcases hs with ⟨k, hk, e⟩ | e
          · exact .inl ⟨k, List.mem_append_left _ hk, e⟩
          · exact .inr e
        · intro k hk
          rcases List.mem_append.1 hk with hk | hk
          · exact hm k hk
          · rw [List.mem_singleton.1 hk]; exact ⟨e.ge, fun _ => g.le⟩
      · refine ⟨c i, v, by simp [g], .inl ⟨i, by simp, rfl, e.symm⟩, ?_⟩
        intro k hk
        rcases List.mem_append.1 hk with hk | hk
        · exact ⟨(hm k hk).1, fun q => (not_lt.1 g).trans ((hm k hk).2 q)⟩
        · rw [List.mem_singleton.1 hk]; exact ⟨e.ge, fun _ => le_rfl⟩
    · rw [if_neg e]
      have hlt : v < x i := lt_of_le_of_ne (not_lt.1 h) e
      refine ⟨c i, x i, rfl, .inl ⟨i, by simp, rfl, rfl⟩, ?_⟩
      intro k hk
      rcases List.mem_append.1 hk with hk | hk
      · exact ⟨(hm k hk).1.trans hlt.le, fun q => absurd q ((hm k hk).1.trans_lt hlt).ne⟩
      · rw [List.mem_singleton.1 hk]; exact ⟨le_rfl, fun _ => le_rfl⟩

theorem ofBits_bot : Ideal.ofBits .f32 0xFF800000#32 = ⊥ := by
  simp [Ideal.ofBits, Ideal.ieee]

/-- The reduction of (element, coordinate) pairs at `j`: the best of the elements it runs over, which `r` lists by coordinate. -/
theorem argReduce_best {s t u : Shape} {axes : List (Fin s.rank)} (x : FVec Ideal s .f32) (y : IVec s 32) (ix : FVec Ideal u .f32) (iy : IVec u 32)
    (h : s.ReducesTo axes t) (hu : 0 < u.numel) (hix : ix (Shape.Idx.first hu) = (⊥ : EReal)) (hiy : iy (Shape.Idx.first hu) = 0#32)
    (c : s.Idx → Fin 4096) (hy : ∀ i, y i = BitVec.ofNat 32 (c i).val) (j : t.Idx) (r : Fin 4096 → s.Idx)
    (hr : ∀ i, h.drop (r i) = j) (hc : ∀ i, c (r i) = i) (hall : ∀ i, h.drop i = j → i = r (c i)) :
    ∃ a : Fin 4096, Cert.Proof.Ref.argIdx (F := Ideal) x y ix iy h hu j = BitVec.ofNat 32 a.val
      ∧ IsBest (fun i => x (r i)) a := by
  unfold Cert.Proof.Ref.argIdx
  rw [Ideal.argReduce_eq_reduce2]
  obtain ⟨a, v, hf, hs, hm⟩ := fold_best (fun n => x (s.rowMajor.symm n)) (fun n => c (s.rowMajor.symm n))
    ((List.finRange s.numel).filter fun n => h.drop (s.rowMajor.symm n) = j)
  have hi : ∀ i : Fin 4096, x (r i) ≤ v ∧ (x (r i) = v → a ≤ i) := by
    intro i
    have h' := hm (s.rowMajor (r i)) (List.mem_filter.2 ⟨List.mem_finRange _, decide_eq_true (by rw [Equiv.symm_apply_apply]; exact hr i)⟩)
    simp only [Equiv.symm_apply_apply, hc] at h'
    exact h'
  refine ⟨a, ?_, ?_⟩
  · unfold Host.reduce2
    rw [hix, hiy]
    simp only [hy]
    exact congrArg Prod.snd hf
  · have hv : x (r a) = v := by
      rcases hs with ⟨n, hn, e1, e2⟩ | ⟨e1, e2⟩
      · rw [← e1, ← hall _ (of_decide_eq_true (List.mem_filter.1 hn).2)]; exact e2
      · rw [e2]; exact le_bot_iff.1 ((hi a).1.trans_eq e2)
    intro i
    show x (r i) ≤ x (r a) ∧ (x (r i) = x (r a) → a ≤ i)
    rw [hv]; exact hi i

theorem rowDrop (h : Cert.ReferenceIdeal.S4096x4096.ReducesTo [1] Cert.ReferenceIdeal.S4096) (p i : Fin 4096) : h.drop (ix2 p i) = ix1 p := by
  funext b
  fin_cases b
  exact Fin.ext (Shape.ReducesTo.drop_apply_val_of_eq h (ix2 p i) 0 0)

theorem rowDrop_eq (h : Cert.ReferenceIdeal.S4096x4096.ReducesTo [1] Cert.ReferenceIdeal.S4096) (p : Fin 4096)
    (i : Cert.ReferenceIdeal.S4096x4096.Idx) (e : h.drop i = ix1 p) : i = ix2 p (i 1) := by
  funext b
  fin_cases b
  · exact Fin.ext ((Shape.ReducesTo.drop_apply_val_of_eq h i 0 0).symm.trans (congrArg (fun q => (q 0).val) e))
  · rfl

theorem bot_at (i : Cert.ReferenceIdeal.S_.Idx) : (constant Cert.ReferenceIdeal.S_ .f32 0xFF800000#32 : FVec Ideal Cert.ReferenceIdeal.S_ .f32) i = (⊥ : EReal) :=
  ofBits_bot

/-- The reference's index of row `p` is the best of that row. -/
theorem argOf_best (s : FVec Ideal Cert.ReferenceIdeal.S4096x4096 .f32) (p : Fin 4096) :
    ∃ c : Fin 4096, Cert.Proof.Ref.argOf (F := Ideal) s (ix1 p) = BitVec.ofNat 32 c.val ∧ IsBest (fun i => s (ix2 p i)) c := by
  unfold Cert.Proof.Ref.argOf
  exact argReduce_best s _ _ _ _ _ (bot_at _) rfl (fun i => i 1) (fun _ => rfl) (ix1 p)
    (fun i => ix2 p i) (fun i => rowDrop _ p i) (fun _ => rfl) (fun i e => rowDrop_eq _ p i e)

/-! ## The kernel's index reduction -/

/-- The kernel's index of column `q` is the best of that column. -/
theorem reduceIndex_best (x : FVec Ideal Cert.KernelIdeal.S4096x2048 .f32) (h : Cert.KernelIdeal.S4096x2048.Reduces [0] Cert.KernelIdeal.S2048) (q : Fin 2048) :
    ∃ c : Fin 4096, reduceIndex .argMax 0 Cert.KernelIdeal.S2048 x h (ix1 q) = BitVec.ofNat 32 c.val ∧ IsBest (fun i => x (ix2 i q)) c := by
  classical
  have hd : ∀ i : Cert.KernelIdeal.S4096x2048.Idx, h.drop i = ix1 q ↔ i = ix2 (i 0) q := by
    intro i
    constructor
    · intro e
      funext b
      fin_cases b
      · rfl
      · exact Fin.ext ((Shape.Reduces.drop_apply_val_of_eq h i 0 1).symm.trans (congrArg (fun k => (k 0).val) e))
    · intro e
      funext b
      fin_cases b
      exact Fin.ext ((Shape.Reduces.drop_apply_val_of_eq h i 0 1).trans (congrArg (fun k => (k 1).val) e))
  obtain ⟨m, -, hmax⟩ := Finset.exists_max_image (Finset.univ : Finset (Fin 4096)) (fun i => x (ix2 i q)) ⟨0, Finset.mem_univ _⟩
  obtain ⟨c, hc, hmin⟩ := Finset.exists_min_image (Finset.univ.filter fun i : Fin 4096 => x (ix2 i q) = x (ix2 m q)) id ⟨m, by simp⟩
  have hcm : x (ix2 c q) = x (ix2 m q) := (Finset.mem_filter.1 hc).2
  have hbest : IsBest (fun i => x (ix2 i q)) c := fun i =>
    ⟨(hmax i (Finset.mem_univ _)).trans_eq hcm.symm, fun e => hmin i (Finset.mem_filter.2 ⟨Finset.mem_univ _, e.trans hcm⟩)⟩
  refine ⟨c, ?_, hbest⟩
  show Ideal.reduceIndex .argMax 0 h x (ix1 q) = _
  unfold Ideal.reduceIndex
  simp only [if_true]
  congr 1
  have hS : ((Finset.univ.filter fun i : Cert.KernelIdeal.S4096x2048.Idx => h.drop i = ix1 q).filter
      fun i => ∀ i' ∈ Finset.univ.filter (fun i : Cert.KernelIdeal.S4096x2048.Idx => h.drop i = ix1 q), ¬ x i < x i').image (fun i => (i 0).val)
      = (Finset.univ.filter fun i : Fin 4096 => x (ix2 i q) = x (ix2 c q)).image Fin.val := by
    ext n
    simp only [Finset.mem_image, Finset.mem_filter, Finset.mem_univ, true_and]
    constructor
    · rintro ⟨i, ⟨hi, hx⟩, rfl⟩
      refine ⟨i 0, ?_, rfl⟩
      have h1 := hx (ix2 c q) ((hd _).2 rfl)
      rw [(hd i).1 hi] at h1
      exact le_antisymm (hbest _).1 (not_lt.1 h1)
    · rintro ⟨i, hi, rfl⟩
      refine ⟨ix2 i q, ⟨(hd _).2 rfl, ?_⟩, rfl⟩
      intro i' hi'
      rw [(hd i').1 hi', hi]
      exact not_lt.2 (hbest _).1
  rw [hS]
  have hmn : ((Finset.univ.filter fun i : Fin 4096 => x (ix2 i q) = x (ix2 c q)).image Fin.val).min = (c.val : WithTop ℕ) := by
    refine le_antisymm (Finset.min_le (Finset.mem_image.2 ⟨c, by simp, rfl⟩)) (Finset.le_min fun n hn => ?_)
    obtain ⟨i, hi, rfl⟩ := Finset.mem_image.1 hn
    exact WithTop.coe_le_coe.2 ((hbest i).2 (Finset.mem_filter.1 hi).2)
  rw [hmn]
  rfl

end Cert.Proof.Best

end
-- ==== Proof.Scores.lean ====
/-
  The kernel's index of every position's best key is the reference's: over the extended reals the two score a key alike.
-/
module

public import proofs.«01_k».proof.Proof.Best

@[expose] public section

set_option maxRecDepth 16384

noncomputable section

namespace Cert.Proof.Best

open Idealize.ShloMosaic
open Cert.KernelIdeal Cert.KernelIdeal.Gen

/-- The scores of one half of the positions against every key, as the kernel has them. -/
def scoresK (kn : FVec Ideal S64x4096 .f32) (q : FVec Ideal S64x2048 .f32) (fl : IVec S4096x1 32) : FVec Ideal S4096x2048 .f32 :=
  select (broadcastTo S4096x2048 (cmpi .sge fl (broadcast S4096x1 1#32)) broadcasts_S4096x1_S4096x2048)
    (broadcast S4096x2048 (Scalar.ofBits .f32 0xCE6E6B28#32))
    (matmul dot_S64x4096_S64x2048_S4096x2048_0_0_1_1_n_n none kn q (constant S4096x2048 .f32 0x00000000#32))

theorem pay2_apply (kn : FVec Ideal S64x4096 .f32) (q : FVec Ideal S64x2048 .f32) (fl : IVec S4096x1 32) (j : Fin 2048) :
    k0_pay2 (F := Ideal) kn q fl (ix3 0 0 j)
      = IntOp.minsi (IntOp.maxsi (reduceIndex .argMax 0 S2048 (scoresK kn q fl) reduces_S4096x2048_S2048 (ix1 j)) 0#32) 4095#32 := by
  unfold k0_pay2 scoresK
  simp only [shapeCast_self]
  pointwise

theorem keys_apply (X : FVec Ideal S1x128x64x64 .f32) (k : Fin 64) (p : Fin 4096) :
    Cert.Proof.Shift.keysOf (F := Ideal) X (ix2 k p) = Cert.Proof.Ref.rowsOf (F := Ideal) (Cert.Proof.Ref.laterOf X) (ix2 p k) := by
  pointwise [Cert.Proof.Shift.keysOf, Cert.Proof.Ref.rowsOf, Cert.Proof.Ref.laterOf]

theorem flag_word (b : BitVec 1) : IntOp.cmpi .sge (b.setWidth 32) 1#32 = b := by
  revert b; decide

theorem sim_apply (kx : FVec Ideal S64x4096 .f32) (L : FVec Ideal Cert.ReferenceIdeal.S4096x64 .f32) (hL : ∀ k p, kx (ix2 k p) = L (ix2 p k))
    (q : FVec Ideal S64x2048 .f32) (p i : Fin 4096) (j : Fin 2048) (hq : ∀ k, q (ix2 k j) = L (ix2 p k)) :
    matmul dot_S64x4096_S64x2048_S4096x2048_0_0_1_1_n_n none (k0_pay1 (F := Ideal) kx) q (constant S4096x2048 .f32 0x00000000#32) (ix2 i j)
      = Cert.Proof.Ref.simOf (F := Ideal) L (ix2 p i) := by
  pointwise [k0_pay1, Cert.Proof.Ref.simOf, Cert.Proof.Ref.normOf, hL, hq]
  exact Finset.sum_congr rfl fun k _ => mul_comm _ _

theorem scores_apply (kx : FVec Ideal S64x4096 .f32) (L : FVec Ideal Cert.ReferenceIdeal.S4096x64 .f32) (hL : ∀ k p, kx (ix2 k p) = L (ix2 p k))
    (A : IVec S64x64 32) (q : FVec Ideal S64x2048 .f32) (p i : Fin 4096) (j : Fin 2048) (hq : ∀ k, q (ix2 k j) = L (ix2 p k)) :
    scoresK (k0_pay1 (F := Ideal) kx) q (Cert.Proof.Shift.flagCol A) (ix2 i j)
      = Cert.Proof.Ref.maskedOf (F := Ideal) (Cert.Proof.Ref.flagOf A) (Cert.Proof.Ref.simOf (F := Ideal) L) (ix2 p i) := by
  have hs := sim_apply kx L hL q p i j hq
  unfold scoresK Cert.Proof.Ref.maskedOf
  generalize matmul dot_S64x4096_S64x2048_S4096x2048_0_0_1_1_n_n none (k0_pay1 (F := Ideal) kx) q (constant S4096x2048 .f32 0x00000000#32) = M at hs ⊢
  generalize Cert.Proof.Ref.simOf (F := Ideal) L = R at hs ⊢
  pointwise [Cert.Proof.Shift.flagCol, Cert.Proof.Shift.flagOf, Cert.Proof.Ref.flagOf, hs, flag_word]

theorem clamp_ofNat (c : Fin 4096) : IntOp.minsi (IntOp.maxsi (BitVec.ofNat 32 c.val) 0#32) 4095#32 = BitVec.ofNat 32 c.val := by
  have h0 : (0#32).slt (BitVec.ofNat 32 c.val) = decide (0 < c) := slt_ofNat 0 c
  have h1 : (BitVec.ofNat 32 c.val).slt 4095#32 = decide (c < 4095) := slt_ofNat c 4095
  have e0 : IntOp.maxsi (BitVec.ofNat 32 c.val) 0#32 = BitVec.ofNat 32 c.val := by
    unfold IntOp.maxsi
    rw [h0]
    by_cases h : 0 < c
    · simp [h]
    · have e : c = 0 := le_antisymm (not_lt.1 h) (Fin.zero_le _)
      subst e; rfl
  rw [e0]
  unfold IntOp.minsi
  rw [h1]
  by_cases h : c < 4095
  · simp [h]
  · have e : c = 4095 := by
      have := c.isLt; have := Fin.lt_def.not.1 h
      exact Fin.ext (by change c.val = 4095; change ¬ c.val < 4095 at this; omega)
    subst e; rfl

theorem off1_val (t : Fin grid0.N) : k0_off1 (grid0.coords t) 0 = 0 ∧ k0_off1 (grid0.coords t) 1 = t.val * 2048 := by
  obtain ⟨t, ht⟩ := t
  have ht2 := ht; rw [N_0] at ht2
  interval_cases t <;> decide +revert

theorem cols_apply (t : Fin grid0.N) (kx : FVec Ideal S64x4096 .f32) (k : Fin 64) (j : Fin 2048) (p : Fin 4096) (hp : p.val = t.val * 2048 + j.val) :
    Cert.Proof.Shift.colsAt (F := Ideal) (grid0.coords t) kx (ix2 k j) = kx (ix2 k p) := by
  unfold Cert.Proof.Shift.colsAt
  refine congrArg kx (funext fun b => ?_)
  fin_cases b
  · refine Fin.ext ?_
    show k0_off1 (grid0.coords t) 0 + 1 * k.val = k.val
    rw [(off1_val t).1]; omega
  · refine Fin.ext ?_
    show k0_off1 (grid0.coords t) 1 + 1 * j.val = p.val
    rw [(off1_val t).2]; omega

/-- The kernel's index of a position's best key is the reference's, and names a position. -/
theorem best_eq (X : FVec Ideal S1x128x64x64 .f32) (A : IVec S64x64 32) (p : Fin 4096) :
    ∃ c : Fin 4096, Cert.Proof.Shift.bestOf (F := Ideal) X A (ix1 p) = BitVec.ofNat 32 c.val
      ∧ Cert.Proof.Ref.bestOf (F := Ideal) X A (ix1 p) = BitVec.ofNat 32 c.val := by
  obtain ⟨t, ht⟩ : ∃ t : Fin grid0.N, t.val = p.val / 2048 := ⟨⟨p.val / 2048, by rw [N_0]; omega⟩, rfl⟩
  obtain ⟨j, hj⟩ : ∃ j : Fin 2048, j.val = p.val % 2048 := ⟨⟨p.val % 2048, by omega⟩, rfl⟩
  obtain ⟨a, ha, hba⟩ := reduceIndex_best (scoresK (k0_pay1 (F := Ideal) (Cert.Proof.Shift.keysOf X))
    (Cert.Proof.Shift.colsAt (F := Ideal) (grid0.coords t) (Cert.Proof.Shift.keysOf X)) (Cert.Proof.Shift.flagCol A)) reduces_S4096x2048_S2048 j
  obtain ⟨c, hc, hbc⟩ := argOf_best (Cert.Proof.Ref.maskedOf (F := Ideal) (Cert.Proof.Ref.flagOf A)
    (Cert.Proof.Ref.simOf (F := Ideal) (Cert.Proof.Ref.rowsOf (F := Ideal) (Cert.Proof.Ref.laterOf X)))) p
  have hf : (fun i => scoresK (k0_pay1 (F := Ideal) (Cert.Proof.Shift.keysOf X))
      (Cert.Proof.Shift.colsAt (F := Ideal) (grid0.coords t) (Cert.Proof.Shift.keysOf X)) (Cert.Proof.Shift.flagCol A) (ix2 i j))
      = fun i => Cert.Proof.Ref.maskedOf (F := Ideal) (Cert.Proof.Ref.flagOf A)
        (Cert.Proof.Ref.simOf (F := Ideal) (Cert.Proof.Ref.rowsOf (F := Ideal) (Cert.Proof.Ref.laterOf X))) (ix2 p i) :=
    funext fun i => scores_apply _ _ (keys_apply X) A _ p i j fun k =>
      (cols_apply t _ k j p (by rw [ht, hj]; omega)).trans (keys_apply X k p)
  rw [hf] at hba
  have hac : a = c := hba.unique hbc
  subst hac
  refine ⟨a, ?_, hc⟩
  have h1 : Cert.Proof.Shift.bestOf (F := Ideal) X A (ix1 p)
      = Cert.Proof.Shift.idxAll (F := Ideal) (Cert.Proof.Shift.keysOf X) (Cert.Proof.Shift.flagCol A) (ix3 (⟨p.val / 2048, by omega⟩ : Fin 2) 0 (⟨p.val % 2048, by omega⟩ : Fin 2048)) := by
    pointwise [Cert.Proof.Shift.bestOf]
  rw [h1, Cert.Proof.Shift.idxAll_at _ _ t _ (ix3 0 0 j) ht.symm hj.symm]
  show k0_pay2 (F := Ideal) _ _ _ (ix3 0 0 j) = _
  rw [pay2_apply, ha, clamp_ofNat]

end Cert.Proof.Best

end
-- ==== Proof.Equal.lean ====
/-
  The kernel's result is the reference's, over the extended reals.
-/
module

public import proofs.«01_k».proof.Proof.Scores
public import Idealize.ShloMosaic.Lib.Routing.Ops
public import Idealize.ShloMosaic.Lib.Pointwise.IndexBridge

@[expose] public section

set_option maxRecDepth 16384

noncomputable section

namespace Cert.Proof.Best

open Idealize.ShloMosaic
open Cert.ReferenceIdeal Cert.ReferenceIdeal.Gen

/-! ## The row gather -/

theorem word_toInt (c : Fin 4096) : (BitVec.ofNat 32 c.val).toInt = c.val := by
  rw [BitVec.toInt_eq_toNat_cond, BitVec.toNat_ofNat, Nat.mod_eq_of_lt (by omega), if_pos (by omega)]

theorem word_tests (c : Fin 4096) : IntOp.cmpi .slt (BitVec.ofNat 32 c.val) 0#32 = 0#1 ∧ IntOp.cmpi .sge (BitVec.ofNat 32 c.val) 0#32 = 1#1
    ∧ IntOp.cmpi .sle (BitVec.ofNat 32 c.val) 4095#32 = 1#1 := by
  have h := c.isLt
  simp only [IntOp.cmpi, BitVec.slt_eq_decide, BitVec.sle_eq_decide, word_toInt, show (0#32).toInt = 0 from rfl, show (4095#32).toInt = 4095 from rfl]
  refine ⟨?_, ?_, ?_⟩
  · rw [decide_eq_false (by omega)]; rfl
  · rw [decide_eq_true (by omega)]; rfl
  · rw [decide_eq_true (by omega)]; rfl

theorem wrap_apply (i : IVec S4096 32) (p c : Fin 4096) (h : i (ix1 p) = BitVec.ofNat 32 c.val) :
    Cert.Proof.Ref.wrapOf i (ix2 p 0) = BitVec.ofNat 32 c.val := by
  pointwise [Cert.Proof.Ref.wrapOf, h, (word_tests c).1]

theorem inside_apply (w : IVec S4096x1 32) (p c : Fin 4096) (h : w (ix2 p 0) = BitVec.ofNat 32 c.val) :
    Cert.Proof.Ref.insideOf w (ix1 p) = 1#1 := by
  pointwise [Cert.Proof.Ref.insideOf]
  rw [Finset.univ_unique, Finset.fold_singleton]
  show IntOp.andi (IntOp.andi (IntOp.cmpi .sge (w (ix2 p 0)) 0#32) (IntOp.cmpi .sle (w (ix2 p 0)) 4095#32)) 1#1 = 1#1
  rw [h, (word_tests c).2.1, (word_tests c).2.2]
  rfl

theorem gather_apply (T : FVec Ideal S4096x64 .f32) (w : IVec S4096x1 32) (p c : Fin 4096) (k : Fin 64) (h : w (ix2 p 0) = BitVec.ofNat 32 c.val) :
    Host.gather gather_S4096x64_S4096x1_S4096x64_1_0_n_n_0_1_164 T w (ix2 p k) = T (ix2 c k) := by
  rw [ix2_eq_valueIdx] at h
  rw [ix2_eq_valueIdx, ix2_eq_valueIdx]
  exact Routing.gather_row gather_S4096x64_S4096x1_S4096x64_1_0_n_n_0_1_164 rfl rfl rfl rfl rfl T w p k c h (by decide)

/-- The rows at the indices, where the index names a position. -/
theorem take_apply (T : FVec Ideal S4096x64 .f32) (i : IVec S4096 32) (p c : Fin 4096) (k : Fin 64) (h : i (ix1 p) = BitVec.ofNat 32 c.val) :
    Cert.Proof.Ref.takeOf (F := Ideal) T i (ix2 p k) = T (ix2 c k) := by
  have h1 := wrap_apply i p c h
  have h2 := inside_apply _ p c h1
  have h3 := gather_apply T _ p c k h1
  unfold Cert.Proof.Ref.takeOf
  generalize Cert.Proof.Ref.insideOf (Cert.Proof.Ref.wrapOf i) = a at h2 ⊢
  generalize Host.gather gather_S4096x64_S4096x1_S4096x64_1_0_n_n_0_1_164 T (Cert.Proof.Ref.wrapOf i) = b at h3 ⊢
  pointwise [h2, h3]

/-! ## The results, by channel -/

theorem resultOf_start (X : FVec Ideal S1x128x64x64 .f32) (A : IVec S64x64 32) :
    Cert.Proof.Shift.resultOf (F := Ideal) X A
      = Host.dynamicUpdateSlice (pad Cert.KernelIdeal.S1x192x64x64 ![0, 0, 0, 0] ![0, 64, 0, 0] ![0, 0, 0, 0] X
          (sitofp .f32 (constantI Cert.KernelIdeal.S_ 32 0#32)) Cert.KernelIdeal.Gen.pads_S1x128x64x64_S1x192x64x64_000_0640_000_000 Cert.KernelIdeal.Gen.h_S_)
        (Cert.Proof.Shift.planesOf (F := Ideal) X A) ![0, 128, 0, 0] Cert.KernelIdeal.Gen.updateFits_S1x192x64x64_S1x64x64x64 := by
  unfold Cert.Proof.Shift.resultOf
  congr 1
  funext k
  fin_cases k <;> rfl

theorem starts (h : Cert.KernelIdeal.S1x64x64x64.rank = Cert.KernelIdeal.S1x192x64x64.rank) :
    Host.clampedStart Cert.KernelIdeal.S1x192x64x64 Cert.KernelIdeal.S1x64x64x64 h ![0, 128, 0, 0] = ![0, 128, 0, 0] := by
  funext k
  fin_cases k <;> rfl

theorem result_apply (X : FVec Ideal S1x128x64x64 .f32) (A : IVec S64x64 32) (ch : Fin 192) (r c : Fin 64) :
    Cert.Proof.Shift.resultOf (F := Ideal) X A (ix4 0 ch r c)
      = if h : ch.val < 128 then X (ix4 0 ⟨ch.val, h⟩ r c)
        else Cert.Proof.Shift.planesOf (F := Ideal) X A (ix4 0 ⟨ch.val - 128, by omega⟩ r c) := by
  rw [resultOf_start]
  pointwise [starts]
  by_cases h : ch.val < 128
  · rw [dif_neg (by omega)]; simp only [dif_pos h]
  · rw [dif_pos (by omega), dif_neg h]

theorem planes_apply (X : FVec Ideal S1x128x64x64 .f32) (A : IVec S64x64 32) (k r c : Fin 64) (p q : Fin 4096) (hp : p.val = r.val * 64 + c.val)
    (h : Cert.Proof.Shift.bestOf (F := Ideal) X A (ix1 p) = BitVec.ofNat 32 q.val) :
    Cert.Proof.Shift.planesOf (F := Ideal) X A (ix4 0 k r c)
      = Scalar.select (Cert.Proof.Ref.flagOf A (ix1 p)) (X (ix4 0 ⟨k.val, by omega⟩ ⟨q.val / 64, by omega⟩ ⟨q.val % 64, by omega⟩)) (0 : EReal) := by
  have hf : Cert.Proof.Shift.flatPos r c = ix1 p := by
    unfold Cert.Proof.Shift.flatPos
    rw [ix1_eq_valueIdx]
    exact congrArg ValueIdx.ix1 (Fin.ext (by show 64 * r.val + c.val = p.val; omega))
  have hq : (BitVec.ofNat 32 q.val).toNat = q.val := by rw [BitVec.toNat_ofNat, Nat.mod_eq_of_lt (by omega)]
  show FloatOps.mulf (F := Ideal) (φ := .f32) (X (ValueIdx.ix4 0 ⟨k.val, by omega⟩ (Cert.Proof.Shift.posRow (Cert.Proof.Shift.bestOf (F := Ideal) X A (Cert.Proof.Shift.flatPos r c)))
    (Cert.Proof.Shift.posCol (Cert.Proof.Shift.bestOf (F := Ideal) X A (Cert.Proof.Shift.flatPos r c))))) (Cert.Proof.Shift.flagF (F := Ideal) A (Cert.Proof.Shift.flatPos r c)) = _
  rw [hf, h, Ideal.mulf_def]
  refine Eq.trans (congrArg₂ (fun a b : EReal => a * b)
    (congrArg X (a₂ := ix4 0 ⟨k.val, by omega⟩ ⟨q.val / 64, by omega⟩ ⟨q.val % 64, by omega⟩) ?_)
    (show _ = (((Cert.Proof.Ref.flagOf A (ix1 p)).toNat : ℝ) : EReal) from rfl)) ?_
  · rw [ix4_eq_valueIdx]
    have e1 : Cert.Proof.Shift.posRow (BitVec.ofNat 32 q.val) = ⟨q.val / 64, by omega⟩ :=
      Fin.ext (by show (BitVec.ofNat 32 q.val).toNat / 64 % 64 = q.val / 64; rw [hq]; omega)
    have e2 : Cert.Proof.Shift.posCol (BitVec.ofNat 32 q.val) = ⟨q.val % 64, by omega⟩ :=
      Fin.ext (by show (BitVec.ofNat 32 q.val).toNat % 64 = q.val % 64; rw [hq])
    rw [e1, e2]
  · generalize Cert.Proof.Ref.flagOf A (ix1 p) = b
    generalize X _ = x
    have hb : b = 0#1 ∨ b = 1#1 := by revert b; decide
    rcases hb with rfl | rfl <;> simp [Scalar.select]

theorem out_apply (X : FVec Ideal S1x128x64x64 .f32) (A : IVec S64x64 32) (ch : Fin 192) (r c : Fin 64) :
    Cert.Proof.Ref.outOf (F := Ideal) X A (ix4 0 ch r c) = Cert.Proof.Shift.resultOf (F := Ideal) X A (ix4 0 ch r c) := by
  obtain ⟨p, hp⟩ : ∃ p : Fin 4096, p = ⟨r.val * 64 + c.val, by omega⟩ := ⟨_, rfl⟩
  obtain ⟨q, hk, hr⟩ := best_eq X A p
  have hpl := fun k => planes_apply X A k r c p q (by rw [hp]) hk
  rw [result_apply]
  unfold Cert.Proof.Ref.outOf
  have ht := fun k => take_apply (Cert.Proof.Ref.rowsOf (F := Ideal) (Cert.Proof.Ref.earlierOf X)) _ p q k hr
  clear hk hr
  generalize Cert.Proof.Ref.takeOf (F := Ideal) (Cert.Proof.Ref.rowsOf (F := Ideal) (Cert.Proof.Ref.earlierOf X)) (Cert.Proof.Ref.bestOf (F := Ideal) X A) = T at ht ⊢
  subst hp
  pointwise [Cert.Proof.Ref.joined, Cert.Proof.Ref.earlierOf, Cert.Proof.Ref.laterOf, Cert.Proof.Ref.shiftOf, ht, Cert.Proof.Ref.rowsOf]
  by_cases h : ch.val < 128
  · rw [dif_pos h]
    by_cases h1 : ch.val < 64
    · rw [dif_pos h1]
    · rw [dif_neg h1, dif_pos (by omega)]
      exact congrArg X (congrArg (fun k => ix4 0 k r c) (Fin.ext (by show 64 + (ch.val - 64) = ch.val; omega)))
  · rw [dif_neg (by omega), dif_neg (by omega), dif_neg h]
    refine Eq.trans ?_ (hpl ⟨ch.val - 128, by omega⟩).symm
    exact congrArg (fun k => Scalar.select (Cert.Proof.Ref.flagOf A (ix1 ⟨r.val * 64 + c.val, by omega⟩)) (X (ix4 0 k ⟨q.val / 64, by omega⟩ ⟨q.val % 64, by omega⟩)) 0)
      (Fin.ext (by show ch.val - 64 - 64 = ch.val - 128; omega))

theorem out_eq (X : FVec Ideal S1x128x64x64 .f32) (A : IVec S64x64 32) :
    Cert.Proof.Ref.outOf (F := Ideal) X A = Cert.Proof.Shift.resultOf (F := Ideal) X A := by
  funext j
  obtain ⟨a, b, c, d, rfl⟩ : ∃ (a : Fin 1) (b : Fin 192) (c d : Fin 64), j = ix4 a b c d := ⟨j 0, j 1, j 2, j 3, eq_ix4 j⟩
  rw [Subsingleton.elim a 0]
  exact out_apply X A b c d

end Cert.Proof.Best

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_no_ties
public import Idealize.ShloMosaic.Adequacy
public import Idealize.ShloMosaic.Init
public import proofs.«01_k».proof.Proof.Run
public import proofs.«01_k».proof.Proof.Ref
public import proofs.«01_k».proof.Proof.Equal

@[expose] public section

noncomputable section

namespace Cert.Proof

open Idealize.ShloMosaic Idealize.SL.Sem

local instance : ∀ e, Nonempty (Elt Bits e) := fun _ => ⟨default⟩
local instance : ∀ e, Nonempty (Elt Ideal e) := fun _ => ⟨default⟩

/-- The kernel's frame, over any float values. -/
theorem frame_any {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (Cert.KernelIdeal.threads (F := F)) ⟨m, fun _ => 0, g⟩ (fun r => (∀ c : Dev Cert.KernelIdeal.nD,
      r.2.mem (Shift.inLoc c) = m (Shift.inLoc c) ∧ r.2.mem (Shift.maskLoc c) = m (Shift.maskLoc c)) ∧ r.2.sem = fun _ => 0) :=
  (θ_run Cert.KernelIdeal.defs _ _).mono (fun _ h => ⟨fun c => ⟨(h.1 c).1, (h.1 c).2.1⟩, h.2⟩) (Shift.run_main m g)

/-! The kernel and its idealization are one text, so the kernel's run is the idealization's at `Bits`. The body tables
are compared label by label, the rest is the same term. -/

attribute [local instance] Cert.Kernel.Gen.facts Cert.KernelIdeal.Gen.facts

theorem bodies_eq : Cert.Kernel.defs₀ (F := Bits) = Cert.KernelIdeal.defs₀ (F := Bits) := by
  funext p l a
  match p, l, a with
  | .tc, 0, (t, s) => rfl
  | .tc, 1, _ => rfl
  | .scScalar _, 0, _ => rfl
  | .scScalar _, 1, _ => rfl
  | .scVector _ _, 0, _ => rfl
  | .scVector c s, 1, _ => rfl

theorem defs_eq : Cert.Kernel.defs (F := Bits) = Cert.KernelIdeal.defs (F := Bits) :=
  congrArg (fun d => Cert.Kernel.sc.defs (Pipeline.defs Cert.Kernel.pcfgs d)) bodies_eq

theorem frame_kernel : Cert.quiescent_Kernel := fun m g _ => by
  rw [defs_eq]; exact frame_any (F := Bits) m g
theorem frame_kernel_pre : Cert.quiescent_Kernel_pre_no_ties := fun m g _ => frame_kernel m g trivial
theorem frame_kernelIdeal : Cert.quiescent_KernelIdeal := fun m g _ => frame_any (F := Ideal) m g

theorem frame_reference : Cert.quiescent_ReferenceIdeal := fun m g _ =>
  (θ_run Cert.ReferenceIdeal.defs _ _).mono (fun r h => ⟨fun c => ⟨(h c).1, (h c).2.1⟩, sem_eq_zero_of_no_sems (by decide) r.2⟩)
    (Ref.run_main (F := Ideal) m g)
theorem frame_reference_pre : Cert.quiescent_ReferenceIdeal_pre_no_ties := fun m g _ => frame_reference m g trivial

/-- Both programs end with the kernel's result as a function of the two arguments. -/
theorem value : Cert.algebraic_KernelIdeal_ReferenceIdeal := by
  intro m g m' g' _ hargs
  refine ⟨fun c => Shift.resultOf (F := Ideal) (m (Shift.inLoc c)) (m (Shift.maskLoc c)), ?_, ?_⟩
  · exact (θ_run Cert.KernelIdeal.defs _ _).mono (fun _ h c => ⟨(h.1 c).2.2, (h.1 c).1, (h.1 c).2.1⟩) (Shift.run_main (F := Ideal) m g)
  · refine (θ_run Cert.ReferenceIdeal.defs _ _).mono (fun r h c => ⟨(h c).2.2.trans ?_, (h c).1, (h c).2.1⟩) (Ref.run_main (F := Ideal) m' g')
    rw [(hargs c).1, (hargs c).2]
    exact Best.out_eq _ _

theorem claim : Cert.Claim := ⟨Cert.Kernel.Gen.facts, Cert.KernelIdeal.Gen.facts, Cert.ReferenceIdeal.Gen.facts, Cert.Pre_no_ties.Gen.facts,
  frame_kernel, frame_kernel_pre, frame_kernelIdeal, frame_reference, frame_reference_pre, trivial, value⟩

end Cert.Proof

end
